-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S2048 : Shape := ⟨1, ![2048]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S2048x4 : Shape := ⟨2, ![2048, 4]⟩
abbrev S2048x1024 : Shape := ⟨2, ![2048, 1024]⟩
abbrev S8x256x1024 : Shape := ⟨3, ![8, 256, 1024]⟩
abbrev S2x256x1024 : Shape := ⟨3, ![2, 256, 1024]⟩
abbrev S2 : Shape := ⟨1, ![2]⟩
abbrev S1x512x1024 : Shape := ⟨3, ![1, 512, 1024]⟩
abbrev S512x1024 : Shape := ⟨2, ![512, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 36
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S2048, .i32⟩
  | .hbm, ⟨5, _⟩ => ⟨S2048x1, .i32⟩
  | .hbm, ⟨6, _⟩ => ⟨S32, .i32⟩
  | .hbm, ⟨7, _⟩ => ⟨S1x32, .i32⟩
  | .hbm, ⟨8, _⟩ => ⟨S2048x32, .i32⟩
  | .hbm, ⟨9, _⟩ => ⟨S2048x32, .i32⟩
  | .hbm, ⟨10, _⟩ => ⟨S2048x32, .i1⟩
  | .hbm, ⟨11, _⟩ => ⟨S2048x32, .i32⟩
  | .hbm, ⟨12, _⟩ => ⟨S_, .i32⟩
  | .hbm, ⟨13, _⟩ => ⟨S_, .i32⟩
  | .hbm, ⟨14, _⟩ => ⟨S2048x32, .i32⟩
  | .hbm, ⟨15, _⟩ => ⟨S_, .i32⟩
  | .hbm, ⟨16, _⟩ => ⟨S2048x32, .i32⟩
  | .hbm, ⟨17, _⟩ => ⟨S2048x32, .i1⟩
  | .hbm, ⟨18, _⟩ => ⟨S2048x32, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048x32, .bf16⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048x4, .bf16⟩
  | .hbm, ⟨35, _⟩ => ⟨S2048x1024, .f32⟩
  | .local _ .vmem, ⟨0, _⟩ => ⟨S2048x512, .bf16⟩
  | .local _ .vmem, ⟨1, _⟩ => ⟨S2048x4, .bf16⟩
  | .local _ .vmem, ⟨2, _⟩ => ⟨S4x512x1024, .bf16⟩
  | .local _ .vmem, ⟨3, _⟩ => ⟨S2048x1024, .f32⟩
  | .local _ .vmem, ⟨4, _⟩ => ⟨S8x256x1024, .bf16⟩
  | .local _ .vmem, ⟨5, _⟩ => ⟨S2x256x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_c : Ref sig .tc := ⟨.hbm, 12, rfl⟩
abbrev main_call0_call0_v0 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_41 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.subi v2 c0_i32_41
  let c8_i32_42 : BitVec 32 := 8#32
  let v64 : BitVec 32 := Scalar.addi v63 c8_i32_42
  let c8_i32_43 : BitVec 32 := 8#32
  let v65 : BitVec 32 := Scalar.remsi v64 c8_i32_43
  let c0_i32_55 : BitVec 32 := 0#32
  let c0_i32_56 : BitVec 32 := 0#32
  ![v65.toNat, 0, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_51 : BitVec 32 := 1#32
  let v70 : BitVec 32 := Scalar.muli v7 c1_i32_51
  let v71 : BitVec 32 := Scalar.addi c0_i32_52 v70
  v71.toNat
def k0_off2 (d0 : Dev nD) (c0_i32_44 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v66 : BitVec 32 := Scalar.subi v2 c0_i32_44
  let c1_i32_45 : BitVec 32 := 1#32
  let v67 : BitVec 32 := Scalar.subi v66 c1_i32_45
  let c8_i32_46 : BitVec 32 := 8#32
  let v68 : BitVec 32 := Scalar.addi v67 c8_i32_46
  let c8_i32_47 : BitVec 32 := 8#32
  let v69 : BitVec 32 := Scalar.remsi v68 c8_i32_47
  let v94 : Index := Scalar.indexCast v69
  let c0_74 : Index := 0#32
  let c0_75 : Index := 0#32
  ![v94.toNat, 0, 0]
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_82 : BitVec 32 := 1#32
  let v104 : BitVec 32 := Scalar.muli v5 c1_i32_82
  let v105 : BitVec 32 := Scalar.addi c0_i32_83 v104
  v105.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_94 : BitVec 32 := 1#32
  let v113 : BitVec 32 := Scalar.muli v7 c1_i32_94
  let v114 : BitVec 32 := Scalar.addi c0_i32_95 v113
  v114.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_125 : BitVec 32 := 1#32
  let v147 : BitVec 32 := Scalar.muli v5 c1_i32_125
  let v148 : BitVec 32 := Scalar.addi c0_i32_126 v147
  v148.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_139 : BitVec 32 := 1#32
  let v156 : BitVec 32 := Scalar.muli v7 c1_i32_139
  let v157 : BitVec 32 := Scalar.addi c0_i32_140 v156
  v157.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_170 : BitVec 32 := 1#32
  let v190 : BitVec 32 := Scalar.muli v5 c1_i32_170
  let v191 : BitVec 32 := Scalar.addi c0_i32_171 v190
  v191.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_183 : BitVec 32 := 1#32
  let v199 : BitVec 32 := Scalar.muli v7 c1_i32_183
  let v200 : BitVec 32 := Scalar.addi c0_i32_184 v199
  v200.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_214 : BitVec 32 := 1#32
  let v233 : BitVec 32 := Scalar.muli v5 c1_i32_214
  let v234 : BitVec 32 := Scalar.addi c0_i32_215 v233
  v234.toNat
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_227 : BitVec 32 := 1#32
  let v242 : BitVec 32 := Scalar.muli v7 c1_i32_227
  let v243 : BitVec 32 := Scalar.addi c0_i32_228 v242
  v243.toNat
def k0_dev12 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_258 : BitVec 32 := 1#32
  let v276 : BitVec 32 := Scalar.muli v5 c1_i32_258
  let v277 : BitVec 32 := Scalar.addi c0_i32_259 v276
  v277.toNat
def k0_dev13 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_271 : BitVec 32 := 1#32
  let v285 : BitVec 32 := Scalar.muli v7 c1_i32_271
  let v286 : BitVec 32 := Scalar.addi c0_i32_272 v285
  v286.toNat
def k0_dev14 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_312 : BitVec 32 := 1#32
  let v326 : BitVec 32 := Scalar.muli v7 c1_i32_312
  let v327 : BitVec 32 := Scalar.addi c0_i32_313 v326
  v327.toNat
def k0_off3 (d0 : Dev nD) (c0_i32_343 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_342 : BitVec 32 := 1#32
  let v360 : BitVec 32 := Scalar.addi v2 c1_i32_342
  let v361 : BitVec 32 := Scalar.subi v360 c0_i32_343
  let c8_i32_344 : BitVec 32 := 8#32
  let v362 : BitVec 32 := Scalar.addi v361 c8_i32_344
  let c8_i32_345 : BitVec 32 := 8#32
  let v363 : BitVec 32 := Scalar.remsi v362 c8_i32_345
  let c0_i32_350 : BitVec 32 := 0#32
  let c0_i32_351 : BitVec 32 := 0#32
  ![v363.toNat, 0, 0]
def k0_dev15 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_348 : BitVec 32 := 1#32
  let v364 : BitVec 32 := Scalar.muli v7 c1_i32_348
  let v365 : BitVec 32 := Scalar.addi c0_i32_349 v364
  v365.toNat
def k0_dev16 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_370 : BitVec 32 := 1#32
  let v388 : BitVec 32 := Scalar.muli v5 c1_i32_370
  let v389 : BitVec 32 := Scalar.addi c0_i32_371 v388
  v389.toNat
def k0_dev17 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_378 : BitVec 32 := 1#32
  let v394 : BitVec 32 := Scalar.muli v7 c1_i32_378
  let v395 : BitVec 32 := Scalar.addi c0_i32_379 v394
  v395.toNat
def k0_dev18 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_400 : BitVec 32 := 1#32
  let v418 : BitVec 32 := Scalar.muli v5 c1_i32_400
  let v419 : BitVec 32 := Scalar.addi c0_i32_401 v418
  v419.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_410 : BitVec 32 := 1#32
  let v424 : BitVec 32 := Scalar.muli v7 c1_i32_410
  let v425 : BitVec 32 := Scalar.addi c0_i32_411 v424
  v425.toNat
def k0_dev20 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_432 : BitVec 32 := 1#32
  let v448 : BitVec 32 := Scalar.muli v5 c1_i32_432
  let v449 : BitVec 32 := Scalar.addi c0_i32_433 v448
  v449.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_442 : BitVec 32 := 1#32
  let v454 : BitVec 32 := Scalar.muli v7 c1_i32_442
  let v455 : BitVec 32 := Scalar.addi c0_i32_443 v454
  v455.toNat
def k0_dev22 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_464 : BitVec 32 := 1#32
  let v478 : BitVec 32 := Scalar.muli v5 c1_i32_464
  let v479 : BitVec 32 := Scalar.addi c0_i32_465 v478
  v479.toNat
def k0_dev23 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_474 : BitVec 32 := 1#32
  let v484 : BitVec 32 := Scalar.muli v7 c1_i32_474
  let v485 : BitVec 32 := Scalar.addi c0_i32_475 v484
  v485.toNat
def k0_dev24 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_496 : BitVec 32 := 1#32
  let v508 : BitVec 32 := Scalar.muli v5 c1_i32_496
  let v509 : BitVec 32 := Scalar.addi c0_i32_497 v508
  v509.toNat
def k0_dev25 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_506 : BitVec 32 := 1#32
  let v514 : BitVec 32 := Scalar.muli v7 c1_i32_506
  let v515 : BitVec 32 := Scalar.addi c0_i32_507 v514
  v515.toNat
def k0_dev26 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_535 : BitVec 32 := 1#32
  let v542 : BitVec 32 := Scalar.muli v7 c1_i32_535
  let v543 : BitVec 32 := Scalar.addi c0_i32_536 v542
  v543.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S32x512x1024, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x512x1024, .f32⟩
  | .hbm, ⟨41, _⟩ => ⟨S2048x512, .f32⟩
  | .hbm, ⟨42, _⟩ => ⟨S2048x1024, .f32⟩
  | .hbm, ⟨43, _⟩ => ⟨S2048x1, .i1⟩
  | .hbm, ⟨44, _⟩ => ⟨S_, .f32⟩
  | .hbm, ⟨45, _⟩ => ⟨S_, .f32⟩
  | .hbm, ⟨46, _⟩ => ⟨S2048x1024, .i1⟩
  | .hbm, ⟨47, _⟩ => ⟨S2048x1024, .f32⟩
  | .hbm, ⟨48, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Ring.lean ====
/- The ring of eight devices: who is whose neighbour, the chunks of the accumulator and the two landing slots as views, and
   what each chunk holds after each step of the reduce-scatter. -/
module

public import proofs.«01_k».proof.Proof.Gen.KernelIdeal.Skeleton
public import Idealize.ShloMosaic.Lib.ViewIndex
public import Idealize.ShloMosaic.Lib.Writes
public import Idealize.ShloMosaic.Lib.Release
public import Idealize.ShloMosaic.Lib.Rounds

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## Positions on the ring -/

/-- The device `k` places to the left of `c`. -/
def bk (c : Dev nD) (k : ℕ) : Dev nD := ⟨(c.val + 7 * k) % 8, Nat.mod_lt _ (by decide)⟩
/-- The right neighbour. -/
abbrev nx (c : Dev nD) : Dev nD := bk c 7
/-- The left neighbour. -/
abbrev pv (c : Dev nD) : Dev nD := bk c 1

/-- Going left twice. -/
theorem bk_bk (c : Dev nD) (a b : ℕ) : bk (bk c a) b = bk c (a + b) := by
  apply Fin.ext; simp only [bk]; omega
/-- Eight places are the whole ring. -/
theorem bk_add8 (c : Dev nD) (a : ℕ) : bk c (a + 8) = bk c a := by
  apply Fin.ext; simp only [bk]; omega
/-- No place to the left. -/
theorem bk_zero (c : Dev nD) : bk c 0 = c := by
  apply Fin.ext; simp only [bk]; have h8 : c.val < 8 := c.isLt; omega
/-- Equal residues name the same device. -/
theorem bk_congr (c : Dev nD) {a b : ℕ} (h : a % 8 = b % 8) : bk c a = bk c b := by
  apply Fin.ext; simp only [bk]; omega
/-- Distinct residues name distinct devices. -/
theorem bk_inj (c : Dev nD) {a b : ℕ} (ha : a < 8) (hb : b < 8) (h : bk c a = bk c b) : a = b := by
  have h := congrArg Fin.val h; simp only [bk] at h; omega
/-- Left of the right neighbour. -/
theorem pv_nx (c : Dev nD) : pv (nx c) = c := by
  unfold pv nx; rw [bk_bk, show 7 + 1 = 0 + 8 from rfl, bk_add8, bk_zero]
/-- Right of the left neighbour. -/
theorem nx_pv (c : Dev nD) : nx (pv c) = c := by
  unfold pv nx; rw [bk_bk, show 1 + 7 = 0 + 8 from rfl, bk_add8, bk_zero]
/-- Every chunk is some number of places left of `c`. -/
theorem exists_bk (c : Dev nD) (j : Dev nD) : ∃ k < 8, bk c k = j := by
  refine ⟨(c.val + 8 - j.val) % 8, Nat.mod_lt _ (by decide), Fin.ext ?_⟩
  have h8 : c.val < 8 := c.isLt; have h8' : j.val < 8 := j.isLt; simp only [bk]; omega
/-- The ring turned by one place. -/
def turn : Dev nD ≃ Dev nD := ⟨nx, pv, pv_nx, nx_pv⟩

/-- The parity of a step: which of the two landing slots and semaphores it uses. -/
def par (s : ℕ) : Fin 2 := ⟨s % 2, Nat.mod_lt _ (by decide)⟩

/-! ## The views -/

/-- The accumulator of eight chunks. -/
abbrev redM : Memref sig .tc .vmem S8x256x1024 .bf16 := Memref.whole cc0_scratch0
/-- The two landing slots. -/
abbrev comM : Memref sig .tc .vmem S2x256x1024 .bf16 := Memref.whole cc0_scratch1

theorem red_inb (j : Dev nD) : ∀ a, (![j.val, 0, 0] : Fin 3 → ℕ) a + S1x256x1024.size a ≤ S8x256x1024.size a := by
  revert j; decide
theorem com_inb (p : Fin 2) : ∀ a, (![p.val, 0, 0] : Fin 3 → ℕ) a + S1x256x1024.size a ≤ S2x256x1024.size a := by
  revert p; decide

/-- Chunk `j` of the accumulator. -/
abbrev redR (j : Dev nD) : Rect S8x256x1024 := Rect.unit (s := S8x256x1024) ![j.val, 0, 0] S1x256x1024.size (red_inb j)
/-- Landing slot `p`. -/
abbrev comR (p : Fin 2) : Rect S2x256x1024 := Rect.unit (s := S2x256x1024) ![p.val, 0, 0] S1x256x1024.size (com_inb p)
abbrev redU (j : Dev nD) : Memref sig .tc .vmem S1x256x1024 .bf16 := redM.slice (redR j) (fun _ => rfl)
abbrev comU (p : Fin 2) : Memref sig .tc .vmem S1x256x1024 .bf16 := comM.slice (comR p) (fun _ => rfl)
/-- The chunk as the transfers name it. -/
abbrev redQ (j : Dev nD) : Memref sig .tc .vmem S256x1024 .bf16 := (redU j).squeeze S256x1024 squeezes_S1x256x1024_S256x1024
/-- The slot as the transfers name it. -/
abbrev comQ (p : Fin 2) : Memref sig .tc .vmem S256x1024 .bf16 := (comU p).squeeze S256x1024 squeezes_S1x256x1024_S256x1024

/-- The chunk offset the kernel computes for the reduce-scatter's source at step `k`. -/
theorem off1_eq (c : Dev nD) (k : Fin 7) : k0_off1 c (BitVec.ofNat 32 k.val) = ![(bk c k.val).val, 0, 0] := by
  revert c k; decide
/-- The chunk the reduce-scatter adds into at step `k`. -/
theorem off2_eq (c : Dev nD) (k : Fin 7) : k0_off2 c (BitVec.ofNat 32 k.val) = ![(bk c (k.val + 1)).val, 0, 0] := by
  revert c k; decide
/-- The chunk the all-gather passes on at step `k`. -/
theorem off3_eq (c : Dev nD) (k : Fin 7) : k0_off3 c (BitVec.ofNat 32 k.val) = ![(bk c (k.val + 7)).val, 0, 0] := by
  revert c k; decide

variable (A : Dev nD → Vec F S8x256x1024 .bf16)

/-- Chunk `j` of an accumulator. -/
def chunk (X : Vec F S8x256x1024 .bf16) (j : Dev nD) : Vec F S1x256x1024 .bf16 := fun i => X ((redR j).emb i)

/-- What chunk `c - s` of device `c` holds once the sums of the devices `c - s`, …, `c` are in it. -/
def P : ℕ → Dev nD → Vec F S1x256x1024 .bf16
  | 0, c => chunk (A c) c
  | s + 1, c => k0_pay5 (chunk (A c) (bk c (s + 1))) (P s (pv c))

/-- The finished chunk `j`: all eight devices' sums, as the device left of `j` completes it. -/
def Fn (j : Dev nD) : Vec F S1x256x1024 .bf16 := P A 7 (pv j)

/-- The accumulator at the end, on every device. -/
def whole : Vec F S8x256x1024 .bf16 := fun i =>
  Fn A (i 0) (fun a => match a with | ⟨0, _⟩ => (0 : Fin 1) | ⟨1, _⟩ => i 1 | ⟨2, _⟩ => i 2)

end Cert.KernelIdeal.Talk

end
-- ==== Proof.Views.lean ====
/- The chunks and slots as element sets and contents: what a landing leaves, what a load reads, and the accumulator as the
   disjoint union of its eight chunks. -/
module

public import proofs.«01_k».proof.Proof.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- A landing through a squeezed view of what a squeezed view reads: the two views read alike afterwards. -/
theorem read_landed {s s' : Shape} {e : EltTy} (v w : View sig .tc .vmem s e) (h : s'.numel = s.numel)
    (fd : v.ty.Contents (Elt F)) (fs : w.ty.Contents (Elt F)) :
    v.read (Elt F) ((v.reshape s' h).write (Elt F) fd ((w.reshape s' h).read (Elt F) fs) Finset.univ) = w.read (Elt F) fs := by
  rw [View.write_reshape_univ, View.read_write_univ]
  funext x
  show w.read (Elt F) fs (Shape.reshapeEquiv h ((Shape.reshapeEquiv h).symm x)) = _
  rw [Equiv.apply_symm_apply]

/-- The units a transfer of one chunk delivers. -/
abbrev N : ℕ := (comQ 0).view.dmaCredit
theorem N_pos : 0 < N := View.dmaCredit_pos _ (by decide)
theorem credit_com (p : Fin 2) : (comQ p).view.dmaCredit = N := rfl
theorem credit_red (j : Dev nD) : (redQ j).view.dmaCredit = N := rfl

/-- The elements of chunk `j`. -/
abbrev redS (j : Dev nD) : Finset redM.view.ty.Idx := (redU j).view.set
/-- The elements of slot `p`. -/
abbrev comS (p : Fin 2) : Finset comM.view.ty.Idx := (comU p).view.set

/-- Reading chunk `j` off the accumulator's buffer. -/
theorem read_red (f : cc0_scratch0.ty.Contents (Elt F)) (j : Dev nD) : (redU j).view.read (Elt F) f = chunk (F := F) f j := rfl

theorem redU_disjoint {j j' : Dev nD} (h : j ≠ j') : Disjoint (redU j).view.set (redU j').view.set := by
  refine View.disjoint_slice (v := redM.view) (Finset.disjoint_left.mpr fun i hi hi' => h ?_)
  rw [← Rect.map_emb_univ] at hi hi'
  obtain ⟨x, -, hx⟩ := Finset.mem_map.mp hi
  obtain ⟨y, -, hy⟩ := Finset.mem_map.mp hi'
  have h0 : ((redR j).emb x (0 : Fin 3)).val = ((redR j').emb y (0 : Fin 3)).val := by rw [hx, hy]
  have hx0 : (x (0 : Fin 3)).val < 1 := (x (0 : Fin 3)).isLt
  have hy0 : (y (0 : Fin 3)).val < 1 := (y (0 : Fin 3)).isLt
  have e1 : ((redR j).emb x (0 : Fin 3)).val = j.val + 1 * (x (0 : Fin 3)).val := rfl
  have e2 : ((redR j').emb y (0 : Fin 3)).val = j'.val + 1 * (y (0 : Fin 3)).val := rfl
  apply Fin.ext; omega

/-- An index of the accumulator lies in the chunk its first coordinate names. -/
def inChunk (i : S8x256x1024.Idx) : S1x256x1024.Idx :=
  fun a => match a with | ⟨0, _⟩ => (0 : Fin 1) | ⟨1, _⟩ => i 1 | ⟨2, _⟩ => i 2

theorem emb_inChunk (i : S8x256x1024.Idx) : (redR (i 0)).emb (inChunk i) = i := by
  funext a
  match a with
  | ⟨0, _⟩ => exact Fin.ext (show (i 0).val + 1 * 0 = (i 0).val by omega)
  | ⟨1, _⟩ => exact Fin.ext (show 0 + 1 * (i 1).val = (i 1).val by omega)
  | ⟨2, _⟩ => exact Fin.ext (show 0 + 1 * (i 2).val = (i 2).val by omega)

theorem redU_cover : (Finset.univ : Finset (Dev nD)).biUnion redS = Finset.univ := by
  refine Finset.eq_univ_of_forall fun i => Finset.mem_biUnion.mpr ⟨i 0, Finset.mem_univ _, ?_⟩
  exact Finset.mem_map.mpr ⟨inChunk i, Finset.mem_univ _, emb_inChunk i⟩

/-- An accumulator is known once its chunks are. -/
theorem ext_chunks {X Y : Vec F S8x256x1024 .bf16} (h : ∀ j, chunk X j = chunk Y j) : X = Y := by
  funext i
  have := congrFun (h (i 0)) (inChunk i)
  unfold chunk at this
  rwa [emb_inChunk] at this

theorem chunk_whole (A : Dev nD → Vec F S8x256x1024 .bf16) (j : Dev nD) : chunk (whole A) j = Fn A j := by
  funext i
  have e0 : ((redR j).emb i) (0 : Fin 3) = j := by
    have hx0 : (i (0 : Fin 3)).val < 1 := (i (0 : Fin 3)).isLt
    exact Fin.ext (show j.val + 1 * (i (0 : Fin 3)).val = j.val by omega)
  have e : inChunk ((redR j).emb i) = i := by
    funext a
    match a with
    | ⟨0, _⟩ =>
      have hx0 : (i (0 : Fin 3)).val < 1 := (i (0 : Fin 3)).isLt
      exact Fin.ext (show 0 = (i (0 : Fin 3)).val by omega)
    | ⟨1, _⟩ => exact Fin.ext (show 0 + 1 * (i 1).val = (i 1).val by omega)
    | ⟨2, _⟩ => exact Fin.ext (show 0 + 1 * (i 2).val = (i 2).val by omega)
  show Fn A (((redR j).emb i) 0) (inChunk ((redR j).emb i)) = _
  rw [e0, e]

theorem redU_nonempty (j : Dev nD) : (redU j).view.set.Nonempty :=
  ⟨_, (redU j).view.emb_mem_set (fun a => match a with | ⟨0, _⟩ => (0 : Fin 1) | ⟨1, _⟩ => (0 : Fin 256) | ⟨2, _⟩ => (0 : Fin 1024))⟩
theorem comU_nonempty (p : Fin 2) : (comU p).view.set.Nonempty :=
  ⟨_, (comU p).view.emb_mem_set (fun a => match a with | ⟨0, _⟩ => (0 : Fin 1) | ⟨1, _⟩ => (0 : Fin 256) | ⟨2, _⟩ => (0 : Fin 1024))⟩

theorem comU_disjoint {p p' : Fin 2} (h : p ≠ p') : Disjoint (comU p).view.set (comU p').view.set := by
  refine View.disjoint_slice (v := comM.view) (Finset.disjoint_left.mpr fun i hi hi' => h ?_)
  rw [← Rect.map_emb_univ] at hi hi'
  obtain ⟨x, -, hx⟩ := Finset.mem_map.mp hi
  obtain ⟨y, -, hy⟩ := Finset.mem_map.mp hi'
  have h0 : ((comR p).emb x (0 : Fin 3)).val = ((comR p').emb y (0 : Fin 3)).val := by rw [hx, hy]
  have hx0 : (x (0 : Fin 3)).val < 1 := (x (0 : Fin 3)).isLt
  have hy0 : (y (0 : Fin 3)).val < 1 := (y (0 : Fin 3)).isLt
  have e1 : ((comR p).emb x (0 : Fin 3)).val = p.val + 1 * (x (0 : Fin 3)).val := rfl
  have e2 : ((comR p').emb y (0 : Fin 3)).val = p'.val + 1 * (y (0 : Fin 3)).val := rfl
  apply Fin.ext; omega

theorem comU_cover : (Finset.univ : Finset (Fin 2)).biUnion comS = Finset.univ := by
  refine Finset.eq_univ_of_forall fun i => Finset.mem_biUnion.mpr ⟨i (0 : Fin 3), Finset.mem_univ _, ?_⟩
  refine Finset.mem_map.mpr ⟨fun a => match a with | ⟨0, _⟩ => (0 : Fin 1) | ⟨1, _⟩ => i (1 : Fin 3) | ⟨2, _⟩ => i (2 : Fin 3), Finset.mem_univ _, ?_⟩
  funext a
  match a with
  | ⟨0, _⟩ => exact Fin.ext (show (i (0 : Fin 3)).val + 1 * 0 = (i (0 : Fin 3)).val by omega)
  | ⟨1, _⟩ => exact Fin.ext (show 0 + 1 * (i (1 : Fin 3)).val = (i (1 : Fin 3)).val by omega)
  | ⟨2, _⟩ => exact Fin.ext (show 0 + 1 * (i (2 : Fin 3)).val = (i (2 : Fin 3)).val by omega)

end Cert.KernelIdeal.Talk

end
-- ==== Proof.Proto.lean ====
/- The protocol of the ring: which semaphore is what, who pays which round of it and with what, what each device owes and may
   wait for, and the slots a neighbour writes into.

   Per device `c` (left neighbour `pv c`, right neighbour `nx c`):
   * the barrier: one unit from each neighbour. The right one's unit says its two landing slots are free and its receive
     cells open; the left one's says its credit cell is open.
   * the receive cell of a parity: one landing of the left neighbour per step of that parity; it hands over the landing slot
     holding the left neighbour's partial sum (reduce-scatter), or the chunk of the accumulator holding the finished
     sum (all-gather).
   * the send cell of a parity: the same copies at their source; it hands the source chunk back.
   * the credit: ten units of the right neighbour, the one numbered `σ` after its step `σ` (reduce-scatter, `σ < 5`) or
     `σ - 5` (all-gather); it says the slots of all units up to `σ` are free again. -/
module

public import proofs.«01_k».proof.Proof.Views
public import Idealize.ShloMosaic.Lib.Pipeline.Regions
public import Idealize.ShloMosaic.Lib.Pipeline.Kit
public import Idealize.ShloMosaic.Lib.StableHlo
public import Idealize.ShloMosaic.Lib.Tactic
public import Idealize.ShloMosaic.PureOps
public import Idealize.ShloMosaic.Lib.Pipeline.RegionTalk
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The resource algebra -/

/-- The rounds of the protocol, its duties numbered. -/
abbrev UT : Type := URounds (GSem nD τ sig) ℕ
/-- The slots: device and number. -/
abbrev Key : Type := Dev nD × ℕ
abbrev UU : Type := UR sig nD τ × (UT × Release.USlots Key)

local notation "𝕄" => MT nD τ sig ℕ (Elt F) ℕ UU ℕ

abbrev EP : Emb (UR sig nD τ) (MT nD τ sig ℕ (Elt F) ℕ UU ℕ) := embL
abbrev ER : Emb UT (MT nD τ sig ℕ (Elt F) ℕ UU ℕ) := (Emb.inl : Emb UT (UT × Release.USlots Key)).trans embR
abbrev ES : Emb (Release.USlots Key) (MT nD τ sig ℕ (Elt F) ℕ UU ℕ) := (Emb.inr : Emb (Release.USlots Key) (UT × Release.USlots Key)).trans embR

/-! ## The cells -/

abbrev barS : Sem sig := 1
abbrev creS : Sem sig := 0
/-- The reduce-scatter's send semaphore of a parity. -/
def rsS (p : Fin 2) : DmaSem sig := ⟨4 + p.val, by revert p; decide⟩
/-- The reduce-scatter's receive semaphore of a parity. -/
def rsV (p : Fin 2) : DmaSem sig := ⟨6 + p.val, by revert p; decide⟩
/-- The all-gather's send semaphore of a parity. -/
def agS (p : Fin 2) : DmaSem sig := ⟨8 + p.val, by revert p; decide⟩
/-- The all-gather's receive semaphore of a parity. -/
def agV (p : Fin 2) : DmaSem sig := ⟨10 + p.val, by revert p; decide⟩

/-- What a semaphore is for. -/
inductive Role where
  | bar | cre | rsS (p : Fin 2) | rsV (p : Fin 2) | agS (p : Fin 2) | agV (p : Fin 2) | other
deriving DecidableEq

def role : SemLoc sig → Role
  | .reg s => if s = 1 then .bar else .cre
  | .dma s => if s.val < 4 then .other else if s.val < 6 then .rsS (par s.val) else if s.val < 8 then .rsV (par s.val)
      else if s.val < 10 then .agS (par s.val) else .agV (par s.val)

@[simp] theorem role_bar : role (.reg barS) = .bar := by decide
@[simp] theorem role_cre : role (.reg creS) = .cre := by decide
@[simp] theorem role_rsS (p : Fin 2) : role (.dma (rsS p)) = .rsS p := by revert p; decide
@[simp] theorem role_rsV (p : Fin 2) : role (.dma (rsV p)) = .rsV p := by revert p; decide
@[simp] theorem role_agS (p : Fin 2) : role (.dma (agS p)) = .agS p := by revert p; decide
@[simp] theorem role_agV (p : Fin 2) : role (.dma (agV p)) = .agV p := by revert p; decide

abbrev barC (c : Dev nD) : GSem nD τ sig := ((c : Thread nD τ), .reg barS)
abbrev creC (c : Dev nD) : GSem nD τ sig := ((c : Thread nD τ), .reg creS)
abbrev rsSC (c : Dev nD) (p : Fin 2) : GSem nD τ sig := ((c : Thread nD τ), .dma (rsS p))
abbrev rsVC (c : Dev nD) (p : Fin 2) : GSem nD τ sig := ((c : Thread nD τ), .dma (rsV p))
abbrev agSC (c : Dev nD) (p : Fin 2) : GSem nD τ sig := ((c : Thread nD τ), .dma (agS p))
abbrev agVC (c : Dev nD) (p : Fin 2) : GSem nD τ sig := ((c : Thread nD τ), .dma (agV p))

/-! ## What is held of chunks and slots -/

/-- Chunk `j` of device `c`'s accumulator, holding `v`. -/
def redHas (c j : Dev nD) (v : Vec F S1x256x1024 .bf16) : sProp 𝕄 :=
  iprop(∃ f : Buf (Elt F) ((redU j).view.loc (c : Thread nD τ)), ⌜(redU j).view.read (Elt F) f = v⌝
    ∗ ((redU j).view.loc (c : Thread nD τ) ↦[(redU j).view.set]{fullShare} f))
/-- Chunk `j` of device `c`'s accumulator, holding anything. -/
def redAny (c j : Dev nD) : sProp 𝕄 := Release.slot ((redU j).view.loc (c : Thread nD τ)) (redU j).view.set
/-- Landing slot `p` of device `c`, holding `v`. -/
def comHas (c : Dev nD) (p : Fin 2) (v : Vec F S1x256x1024 .bf16) : sProp 𝕄 :=
  iprop(∃ f : Buf (Elt F) ((comU p).view.loc (c : Thread nD τ)), ⌜(comU p).view.read (Elt F) f = v⌝
    ∗ ((comU p).view.loc (c : Thread nD τ) ↦[(comU p).view.set]{fullShare} f))
/-- Landing slot `p` of device `c`, holding anything. -/
def comAny (c : Dev nD) (p : Fin 2) : sProp 𝕄 := Release.slot ((comU p).view.loc (c : Thread nD τ)) (comU p).view.set

instance redHas_storable (c j : Dev nD) (v : Vec F S1x256x1024 .bf16) : Storable (upEmb : UEmb _ 𝕄) (redHas c j v) := by
  unfold redHas; infer_instance
instance comHas_storable (c : Dev nD) (p : Fin 2) (v : Vec F S1x256x1024 .bf16) : Storable (upEmb : UEmb _ 𝕄) (comHas c p v) := by
  unfold comHas; infer_instance
instance redAny_storable (c j : Dev nD) : Storable (upEmb : UEmb _ 𝕄) (redAny (F := F) c j) := by unfold redAny; infer_instance
instance comAny_storable (c : Dev nD) (p : Fin 2) : Storable (upEmb : UEmb _ 𝕄) (comAny (F := F) c p) := by unfold comAny; infer_instance

theorem redHas_any (c j : Dev nD) (v : Vec F S1x256x1024 .bf16) : redHas c j v ⊢ redAny c j := by
  unfold redHas redAny Release.slot; iintro ⟨%f, -, H⟩; iexists f; iexact H
theorem comHas_any (c : Dev nD) (p : Fin 2) (v : Vec F S1x256x1024 .bf16) : comHas c p v ⊢ comAny c p := by
  unfold comHas comAny Release.slot; iintro ⟨%f, -, H⟩; iexists f; iexact H

/-- The slot a key names: 0 and 1 the landing slots, `k + 2` the chunk sent at step `k`. -/
def Sl (x : Key) : sProp 𝕄 := if x.2 < 2 then comAny x.1 (par x.2) else redAny x.1 (bk x.1 (x.2 - 2))
instance Sl_storable (x : Key) : Storable (upEmb : UEmb _ 𝕄) (Sl (F := F) x) := by
  unfold Sl; split <;> infer_instance
theorem Sl_com (c : Dev nD) (s : ℕ) : Sl (F := F) (c, s % 2) = comAny c (par s) := by
  unfold Sl; rw [if_pos (Nat.mod_lt _ (by decide))]
  exact congrArg (comAny c) (Fin.ext (Nat.mod_mod _ _))
theorem Sl_red (c : Dev nD) (k : ℕ) : Sl (F := F) (c, k + 2) = redAny c (bk c k) := by
  unfold Sl; rw [if_neg (by show ¬ (k + 2 < 2); omega)]; rfl
theorem Sl_excl (x : Key) : iprop(Sl (F := F) x ∗ Sl x) ⊢ (False : sProp 𝕄) := by
  unfold Sl; split
  · exact Release.slot_slot_false (comU_nonempty _)
  · exact Release.slot_slot_false (redU_nonempty _)
def keys : Finset Key := Finset.univ ×ˢ Finset.range 9

/-! ## What the credit says -/

/-- What device `r` has made true by its credit unit `σ`. -/
def fact (r : Dev nD) (σ : ℕ) : sProp 𝕄 :=
  if σ < 5 then iprop(Release.released ES (r, σ % 2) (σ / 2 + 2) ∗ reached ER (rsVC r (par σ)) (σ / 2 + 1) ∗ Release.released ES (r, σ + 2) 1)
  else iprop(Release.released ES (r, 7) 1 ∗ Release.released ES (r, 8) 1 ∗ reached ER (agVC r (par (σ - 5))) ((σ - 5) / 2 + 1))
/-- All of it up to `σ`. -/
def facts (r : Dev nD) (σ : ℕ) : sProp 𝕄 := bigSep (Finset.range (σ + 1)) (fact r)

instance fact_persistent (r : Dev nD) (σ : ℕ) : BI.Persistent (fact (F := F) r σ) := by unfold fact; split <;> infer_instance
instance facts_persistent (r : Dev nD) (σ : ℕ) : BI.Persistent (facts (F := F) r σ) := by unfold facts; infer_instance
instance fact_storable (r : Dev nD) (σ : ℕ) : Storable (upEmb : UEmb _ 𝕄) (fact (F := F) r σ) := by unfold fact; split <;> infer_instance
instance facts_storable (r : Dev nD) (σ : ℕ) : Storable (upEmb : UEmb _ 𝕄) (facts (F := F) r σ) := by unfold facts; infer_instance

/-- What device `r` tells its left neighbour at the barrier. -/
def hello (r : Dev nD) : sProp 𝕄 :=
  iprop(Release.released ES (r, 0) 1 ∗ Release.released ES (r, 1) 1 ∗ reached ER (rsVC r 0) 0 ∗ reached ER (rsVC r 1) 0
    ∗ reached ER (agVC r 0) 0 ∗ reached ER (agVC r 1) 0)
instance hello_persistent (r : Dev nD) : BI.Persistent (hello (F := F) r) := by unfold hello; infer_instance
instance hello_storable (r : Dev nD) : Storable (upEmb : UEmb _ 𝕄) (hello (F := F) r) := by unfold hello; infer_instance

/-! ## The schedule -/

variable (A : Dev nD → Vec F S8x256x1024 .bf16)

/-- The duties of a round. -/
def dutiesOf : Role → ℕ → Finset ℕ
  | .bar, r => if r = 0 then {0, 1} else ∅
  | .cre, r => if r = 0 then Finset.range 10 else ∅
  | .other, _ => ∅
  | .rsS p, r | .rsV p, r | .agS p, r | .agV p, r => if p.val + 2 * r < 7 then {0} else ∅
/-- The units a duty pays. -/
def amountOf : Role → ℕ
  | .bar | .cre => 1
  | _ => N
/-- What a duty hands to device `c`. -/
def payOf (c : Dev nD) : Role → ℕ → ℕ → sProp 𝕄
  | .bar, _, d => if d = 0 then hello (nx c) else reached ER (creC (pv c)) 0
  | .cre, _, d => facts (nx c) d
  | .rsS p, r, _ => redAny c (bk c (p.val + 2 * r))
  | .rsV p, r, _ => comHas c p (P A (p.val + 2 * r) (pv c))
  | .agS p, r, _ => redHas c (bk c (p.val + 2 * r + 7)) (Fn A (bk c (p.val + 2 * r + 7)))
  | .agV p, r, _ => redHas c (bk c (p.val + 2 * r)) (Fn A (bk c (p.val + 2 * r)))
  | .other, _, _ => iprop(emp)

def rd : Rounds.Schedule (GSem nD τ sig) ℕ 𝕄 where
  duties g r := dutiesOf (role g.2) r
  amount g _ _ := amountOf (role g.2)
  payload g r d := payOf A g.1.1 (role g.2) r d
  amount_pos g r d _ := by
    unfold amountOf; split <;> first | exact Nat.one_pos | exact N_pos

instance rd_storable (g : GSem nD τ sig) (r : ℕ) (d : ℕ) : Storable (upEmb : UEmb _ 𝕄) ((rd (F := F) A).payload g r d) := by
  show Storable upEmb (payOf A g.1.1 (role g.2) r d)
  unfold payOf; split <;> first | infer_instance | (split <;> infer_instance)

section Sched
variable (c : Dev nD)

theorem duties_bar : (rd A).duties (barC c) 0 = {0, 1} := by show dutiesOf (role (.reg barS)) 0 = _; rw [role_bar]; rfl
theorem duties_cre : (rd A).duties (creC c) 0 = Finset.range 10 := by show dutiesOf (role (.reg creS)) 0 = _; rw [role_cre]; rfl
theorem par_add (s : ℕ) : (par s).val + 2 * (s / 2) = s := by simp only [par]; omega
theorem duties_rsS {s : ℕ} (h : s < 7) : (rd A).duties (rsSC c (par s)) (s / 2) = {0} := by
  show dutiesOf (role (.dma _)) _ = _; rw [role_rsS]; exact if_pos (by rw [par_add]; exact h)
theorem duties_rsV {s : ℕ} (h : s < 7) : (rd A).duties (rsVC c (par s)) (s / 2) = {0} := by
  show dutiesOf (role (.dma _)) _ = _; rw [role_rsV]; exact if_pos (by rw [par_add]; exact h)
theorem duties_agS {s : ℕ} (h : s < 7) : (rd A).duties (agSC c (par s)) (s / 2) = {0} := by
  show dutiesOf (role (.dma _)) _ = _; rw [role_agS]; exact if_pos (by rw [par_add]; exact h)
theorem duties_agV {s : ℕ} (h : s < 7) : (rd A).duties (agVC c (par s)) (s / 2) = {0} := by
  show dutiesOf (role (.dma _)) _ = _; rw [role_agV]; exact if_pos (by rw [par_add]; exact h)

theorem amount_bar (r d : ℕ) : (rd A).amount (barC c) r d = 1 := by show amountOf (role (.reg barS)) = _; rw [role_bar]; rfl
theorem amount_cre (r d : ℕ) : (rd A).amount (creC c) r d = 1 := by show amountOf (role (.reg creS)) = _; rw [role_cre]; rfl
theorem amount_rsS (p : Fin 2) (r d : ℕ) : (rd A).amount (rsSC c p) r d = N := by show amountOf (role _) = _; rw [role_rsS]; rfl
theorem amount_rsV (p : Fin 2) (r d : ℕ) : (rd A).amount (rsVC c p) r d = N := by show amountOf (role _) = _; rw [role_rsV]; rfl
theorem amount_agS (p : Fin 2) (r d : ℕ) : (rd A).amount (agSC c p) r d = N := by show amountOf (role _) = _; rw [role_agS]; rfl
theorem amount_agV (p : Fin 2) (r d : ℕ) : (rd A).amount (agVC c p) r d = N := by show amountOf (role _) = _; rw [role_agV]; rfl

theorem expect_bar : (rd A).expect (barC c) 0 = 2 := by
  unfold Schedule.expect Schedule.amountOf; rw [duties_bar, Finset.sum_congr rfl fun d _ => amount_bar A c 0 d]; rfl
theorem expect_cre : (rd A).expect (creC c) 0 = 10 := by
  unfold Schedule.expect Schedule.amountOf; rw [duties_cre, Finset.sum_congr rfl fun d _ => amount_cre A c 0 d]; rfl
theorem expect_rsS {s : ℕ} (h : s < 7) : (rd A).expect (rsSC c (par s)) (s / 2) = N := by
  unfold Schedule.expect Schedule.amountOf; rw [duties_rsS A c h, Finset.sum_singleton, amount_rsS]
theorem expect_rsV {s : ℕ} (h : s < 7) : (rd A).expect (rsVC c (par s)) (s / 2) = N := by
  unfold Schedule.expect Schedule.amountOf; rw [duties_rsV A c h, Finset.sum_singleton, amount_rsV]
theorem expect_agS {s : ℕ} (h : s < 7) : (rd A).expect (agSC c (par s)) (s / 2) = N := by
  unfold Schedule.expect Schedule.amountOf; rw [duties_agS A c h, Finset.sum_singleton, amount_agS]
theorem expect_agV {s : ℕ} (h : s < 7) : (rd A).expect (agVC c (par s)) (s / 2) = N := by
  unfold Schedule.expect Schedule.amountOf; rw [duties_agV A c h, Finset.sum_singleton, amount_agV]

theorem pay_bar0 : (rd A).payload (barC c) 0 0 = hello (nx c) := by show payOf A c (role (.reg barS)) 0 0 = _; rw [role_bar]; rfl
theorem pay_bar1 : (rd A).payload (barC c) 0 1 = reached ER (creC (pv c)) 0 := by
  show payOf A c (role (.reg barS)) 0 1 = _; rw [role_bar]; rfl
theorem pay_cre (d : ℕ) : (rd A).payload (creC c) 0 d = facts (nx c) d := by show payOf A c (role (.reg creS)) 0 d = _; rw [role_cre]; rfl
theorem pay_rsS (s d : ℕ) : (rd A).payload (rsSC c (par s)) (s / 2) d = redAny c (bk c s) := by
  show payOf A c (role (.dma _)) _ d = _; rw [role_rsS]; show redAny c (bk c ((par s).val + 2 * (s / 2))) = _; rw [par_add]
theorem pay_rsV (s d : ℕ) : (rd A).payload (rsVC c (par s)) (s / 2) d = comHas c (par s) (P A s (pv c)) := by
  show payOf A c (role (.dma _)) _ d = _; rw [role_rsV]
  show comHas c (par s) (P A ((par s).val + 2 * (s / 2)) (pv c)) = _; rw [par_add]
theorem pay_agS (s d : ℕ) : (rd A).payload (agSC c (par s)) (s / 2) d = redHas c (bk c (s + 7)) (Fn A (bk c (s + 7))) := by
  show payOf A c (role (.dma _)) _ d = _; rw [role_agS]
  show redHas c (bk c ((par s).val + 2 * (s / 2) + 7)) (Fn A (bk c ((par s).val + 2 * (s / 2) + 7))) = _; rw [par_add]
theorem pay_agV (s d : ℕ) : (rd A).payload (agVC c (par s)) (s / 2) d = redHas c (bk c s) (Fn A (bk c s)) := by
  show payOf A c (role (.dma _)) _ d = _; rw [role_agV]
  show redHas c (bk c ((par s).val + 2 * (s / 2))) (Fn A (bk c ((par s).val + 2 * (s / 2)))) = _; rw [par_add]

end Sched

/-- No cell has a round past the third. -/
theorem duties_late (g : GSem nD τ sig) (r : ℕ) (hr : 4 ≤ r) : (rd A).duties g r = ∅ := by
  show dutiesOf (role g.2) r = ∅
  unfold dutiesOf; split <;> first | rfl | exact if_neg (by omega)
theorem duties_bar_late (c : Dev nD) (r : ℕ) (hr : 1 ≤ r) : (rd A).duties (barC c) r = ∅ := by
  show dutiesOf (role (.reg barS)) r = ∅; rw [role_bar]; exact if_neg (by omega)
theorem duties_cre_late (c : Dev nD) (r : ℕ) (hr : 1 ≤ r) : (rd A).duties (creC c) r = ∅ := by
  show dutiesOf (role (.reg creS)) r = ∅; rw [role_cre]; exact if_neg (by omega)
/-- The rounds of the second parity are three. -/
theorem duties_odd (g : GSem nD τ sig) (hg : role g.2 = .rsS 1 ∨ role g.2 = .rsV 1 ∨ role g.2 = .agS 1 ∨ role g.2 = .agV 1) (r : ℕ)
    (hr : 3 ≤ r) : (rd A).duties g r = ∅ := by
  show dutiesOf (role g.2) r = ∅
  rcases hg with h | h | h | h <;> (rw [h]; exact if_neg (by show ¬ (1 + 2 * r < 7); omega))

/-! ## What each device owes; the levels -/

/-- The step, of fourteen, after which credit unit `σ` is sent. -/
def stepOf (σ : ℕ) : ℕ := if σ < 5 then σ else σ + 2
/-- The receive cell of step `g`, of fourteen. -/
def recvC (c : Dev nD) (g : ℕ) : GSem nD τ sig := if g < 7 then rsVC c (par g) else agVC c (par (g - 7))
/-- What is owed before step `a` with `b` credit units sent: the landings and the credits still to come. -/
def due (c : Dev nD) (a b : ℕ) : CellTallies nD τ sig ℕ :=
  (∑ g ∈ Finset.Ico a 14, tallyAt (recvC (nx c) g) g N) + ∑ σ ∈ Finset.Ico b 10, tallyAt (creC (pv c)) (stepOf σ) 1
/-- What is owed at launch: the two barrier units as well. -/
def O₀ (c : Dev nD) : CellTallies nD τ sig ℕ := due c 0 0 + tallyAt (barC (nx c)) 0 1 + tallyAt (barC (pv c)) 0 1

theorem Ico_pop {a n : ℕ} (h : a < n) : Finset.Ico a n = insert a (Finset.Ico (a + 1) n) := by
  ext x; simp only [Finset.mem_Ico, Finset.mem_insert]; omega
theorem notMem_Ico (a n : ℕ) : a ∉ Finset.Ico (a + 1) n := by simp
theorem due_copy (c : Dev nD) {a : ℕ} (b : ℕ) (ha : a < 14) : due c a b = due c (a + 1) b + tallyAt (recvC (nx c) a) a N := by
  unfold due; rw [Ico_pop ha, Finset.sum_insert (notMem_Ico _ _), add_assoc, add_comm]
theorem due_credit (c : Dev nD) (a : ℕ) {b : ℕ} (hb : b < 10) : due c a b = due c a (b + 1) + tallyAt (creC (pv c)) (stepOf b) 1 := by
  unfold due; rw [Ico_pop hb, Finset.sum_insert (notMem_Ico _ _), add_comm (tallyAt _ _ _) (∑ σ ∈ _, _), ← add_assoc]
theorem due_end (c : Dev nD) : due c 14 10 = 0 := by unfold due; simp

def L (g : GSem nD τ sig) : Finset ℕ := if g.1.2 = .tc then Finset.range 20 else ∅
theorem L_of_ne (g : GSem nD τ sig) (h : g.1.2 ≠ .tc) : L g = ∅ := if_neg h
theorem L_tc (c : Dev nD) (sm : SemLoc sig) : L ((c : Thread nD τ), sm) = Finset.range 20 := if_pos rfl

/-- A landing of step `g` at level `2g + 2`, a credit after step `g` at `2g + 3`, the barrier at 1, the rest at 0. -/
def levOf : Role → ℕ → ℕ
  | .bar, _ => 1
  | .cre, i => 2 * i + 3
  | .rsV _, i | .agV _, i => 2 * i + 2
  | _, _ => 0
def lv (g : GSem nD τ sig) (i : ℕ) : ℕ := levOf (role g.2) i

theorem lv_recv (c : Dev nD) (g i : ℕ) : lv (recvC c g) i = 2 * i + 2 := by
  unfold recvC; split
  · show levOf (role (.dma _)) i = _; rw [role_rsV]; rfl
  · show levOf (role (.dma _)) i = _; rw [role_agV]; rfl
theorem lv_cre (c : Dev nD) (i : ℕ) : lv (creC c) i = 2 * i + 3 := by
  show levOf (role (.reg _)) i = _; rw [role_cre]; rfl
theorem recvC_tc (c : Dev nD) (g : ℕ) : L (recvC c g) = Finset.range 20 := by
  unfold recvC; split <;> exact L_tc _ _
theorem stepOf_lt {σ : ℕ} (h : σ < 10) : stepOf σ < 20 := by unfold stepOf; split <;> omega

/-- What is owed is a landing or a credit still to come. -/
theorem due_pos {c : Dev nD} {a b : ℕ} {g : GSem nD τ sig} {i : ℕ} (h : 0 < due c a b g i) :
    (∃ s, a ≤ s ∧ s < 14 ∧ g = recvC (nx c) s ∧ i = s) ∨ (∃ σ, b ≤ σ ∧ σ < 10 ∧ g = creC (pv c) ∧ i = stepOf σ) := by
  unfold due at h
  rw [Pi.add_apply, Finsupp.add_apply, Finset.sum_apply, Finset.sum_apply, Finsupp.finset_sum_apply, Finsupp.finset_sum_apply] at h
  rcases Nat.add_pos_iff_pos_or_pos.mp h with h | h
  · obtain ⟨s, hs, hne⟩ := Finset.exists_ne_zero_of_sum_ne_zero (Nat.pos_iff_ne_zero.mp h)
    rw [tallyAt_apply] at hne
    have := (Finset.mem_Ico.mp hs)
    by_cases he : g = recvC (nx c) s ∧ i = s
    · exact .inl ⟨s, this.1, this.2, he.1, he.2⟩
    · exact absurd (if_neg he) hne
  · obtain ⟨s, hs, hne⟩ := Finset.exists_ne_zero_of_sum_ne_zero (Nat.pos_iff_ne_zero.mp h)
    rw [tallyAt_apply] at hne
    have := (Finset.mem_Ico.mp hs)
    by_cases he : g = creC (pv c) ∧ i = stepOf s
    · exact .inr ⟨s, this.1, this.2, he.1, he.2⟩
    · exact absurd (if_neg he) hne

/-- A wait whose level is below everything owed is admitted. -/
theorem mayWait_due (c : Dev nD) (sm : SemLoc sig) (i a b cut : ℕ) (hi : i < 20) (hl : lv ((c : Thread nD τ), sm) i ≤ cut)
    (ha : cut < 2 * a + 2) (hb : ∀ σ, b ≤ σ → σ < 10 → cut < 2 * stepOf σ + 3) :
    (levAts L lv : sProp 𝕄) ⊢ MayWait (c : Thread nD τ) sm i (due c a b) :=
  MayOwe.of_cut (L := L) (lev := lv) cut
    (fun p hp => by rw [Finset.mem_singleton.mp hp, L_tc]; exact Finset.mem_range.mpr hi)
    (fun g u hg => by
      rcases due_pos hg with ⟨s, _, h2, rfl, rfl⟩ | ⟨σ, _, h2, rfl, rfl⟩
      · rw [recvC_tc]; exact Finset.mem_range.mpr (by omega)
      · rw [L_tc]; exact Finset.mem_range.mpr (stepOf_lt h2))
    (fun p hp => by rw [Finset.mem_singleton.mp hp]; exact hl)
    (fun g u hg => by
      rcases due_pos hg with ⟨s, h1, h2, rfl, rfl⟩ | ⟨σ, h1, h2, rfl, rfl⟩
      · rw [lv_recv]; omega
      · rw [lv_cre]; exact hb σ h1 h2)

end Cert.KernelIdeal.Talk

end
-- ==== Proof.Chain.lean ====
/- The kernel body as a chain of steps: each step of the ring is one program over its chunk, its landing slot, its
   neighbour and what follows it, and the body is those steps one after another, by definition. -/
module

public import proofs.«01_k».proof.Proof.Proto

@[expose] public section

noncomputable section

namespace Cert.KernelIdeal.Talk

open Idealize.ShloMosaic Idealize.ShloMosaic.TcCoe
open Idealize.SL.Sem
open Cert.KernelIdeal Cert.KernelIdeal.Gen

variable {F : FTy → Type} [FloatOps F]

/-- The kernel's programs. -/
abbrev Code (F : FTy → Type) [FloatOps F] : Type 1 := Prog (TpuEff nD τ sig (Elt F) Λ₀ .tc) PUnit

/-- A chunk of the accumulator by its offset, as the transfers name it. -/
abbrev redO (o : Fin 3 → ℕ) (h : ∀ a, o a + S1x256x1024.size a ≤ S8x256x1024.size a) : Memref sig .tc .vmem S256x1024 .bf16 :=
  (redM.slice (Rect.unit (s := S8x256x1024) o S1x256x1024.size h) (fun _ => rfl)).squeeze S256x1024 squeezes_S1x256x1024_S256x1024

theorem com_words (p : Fin 2) : (comR p).WholeWords (EltTy.packing .bf16) := by
  fin_cases p
  · exact wordsbf16_S2x256x1024_S1x256x1024_0_0_0
  · exact wordsbf16_S2x256x1024_S1x256x1024_1_0_0

/-- One step of the reduce-scatter: the chunk at `o₁` to the neighbour's landing slot, both waits, then the own landing
    slot added into the chunk at `o₂`. -/
def rsProg (d : Dev nD) (p : Fin 2) (o₁ o₂ : Fin 3 → ℕ) (h₁ : ∀ a, o₁ a + S1x256x1024.size a ≤ S8x256x1024.size a)
    (h₂ : ∀ a, o₂ a + S1x256x1024.size a ≤ S8x256x1024.size a) (w₁ : (redO o₁ h₁).view.WordExact) (w : (comQ p).view.WordExact)
    (x : (redM.access (Rect.unit (s := S8x256x1024) o₂ S1x256x1024.size h₂)).Stores Finset.univ) (k : Code F) : Code F :=
  Prog.op (.enqueueDma (redO o₁ h₁) (.remote (Dev.tc d) (comQ p) (.dma (rsS p))) (.dma (rsV p)) w₁ w ⟨⟨rfl, Or.inl rfl⟩, trivial⟩) fun _ =>
  Prog.op (.waitDma2 (rsS p) (comQ p) (redO o₁ h₁) w w₁) fun _ =>
  Prog.op (.waitDma2 (rsV p) (redO o₁ h₁) (comQ p) w₁ w) fun _ =>
  Prog.op (.load redM (Rect.unit (s := S8x256x1024) o₂ S1x256x1024.size h₂).toLoadRect (View.loadsAt_vmem h_S1x256x1024)) fun a =>
  Prog.op (.load comM (comR p).toLoadRect (View.loadsAt_vmem h_S1x256x1024)) fun b =>
  Prog.op (.load redM (Rect.unit (s := S8x256x1024) o₂ S1x256x1024.size h₂).toLoadRect (View.loadsAt_vmem h_S1x256x1024)) fun _ =>
  Prog.op (.store redM (Rect.unit (s := S8x256x1024) o₂ S1x256x1024.size h₂) (k0_pay5 a b) Finset.univ x (.inl rfl)) fun _ => k

/-- One step of the all-gather: the chunk at `o` to the same place at the neighbour, both waits. -/
def agProg (d : Dev nD) (p : Fin 2) (o : Fin 3 → ℕ) (h : ∀ a, o a + S1x256x1024.size a ≤ S8x256x1024.size a)
    (w : (redO o h).view.WordExact) (k : Code F) : Code F :=
  Prog.op (.enqueueDma (redO o h) (.remote (Dev.tc d) (redO o h) (.dma (agS p))) (.dma (agV p)) w w ⟨⟨rfl, Or.inl rfl⟩, trivial⟩) fun _ =>
  Prog.op (.waitDma2 (agS p) (redO o h) (redO o h) w w) fun _ =>
  Prog.op (.waitDma2 (agV p) (redO o h) (redO o h) w w) fun _ => k

/-- One unit of credit to a neighbour. -/
def giveProg (d : Dev nD) (k : Code F) : Code F := Prog.op (.semSignal (d : Thread nD τ) creS ((1 : ℕ) : ℤ)) fun _ => k
/-- One unit of credit taken. -/
def takeProg (k : Code F) : Code F := Prog.op (.semWait creS ((1 : ℕ) : ℤ)) fun _ => k
/-- The barrier between neighbours. -/
def barProg (d d' : Dev nD) (k : Code F) : Code F :=
  Prog.op (.semSignal (d : Thread nD τ) barS ((1 : ℕ) : ℤ)) fun _ =>
  Prog.op (.semSignal (d' : Thread nD τ) barS ((1 : ℕ) : ℤ)) fun _ => Prog.op (.semWait barS ((2 : ℕ) : ℤ)) fun _ => k

/-- The reduce-scatter's step `s` as the kernel words it. -/
abbrev rsAt (c d : Dev nD) (s : Fin 7) (k : Code F) : Code F :=
  rsProg d (par s.val) (k0_off1 c (BitVec.ofNat 32 s.val)) (k0_off2 c (BitVec.ofNat 32 s.val)) (k0_off1_inb c s) (k0_off2_inb c s)
    (((Memref.isWhole_whole cc0_scratch0).wordExact_slice rfl _ (k0_off1_wordsbf16 c s)).reshape _ _)
    (((Memref.isWhole_whole cc0_scratch1).wordExact_slice rfl _ (com_words (par s.val))).reshape _ _)
    (View.stores_vmem h_S1x256x1024 ((Memref.isWhole_whole cc0_scratch0).storeExact_slice rfl _ (k0_off2_packedbf16 c s)) (fun _ => rfl)) k
/-- The all-gather's step `s` as the kernel words it. -/
abbrev agAt (c d : Dev nD) (s : Fin 7) (k : Code F) : Code F :=
  agProg d (par s.val) (k0_off3 c (BitVec.ofNat 32 s.val)) (k0_off3_inb c s)
    (((Memref.isWhole_whole cc0_scratch0).wordExact_slice rfl _ (k0_off3_wordsbf16 c s)).reshape _ _) k

/-- The product part: four experts' blocks loaded, and their sum stored over the whole accumulator. -/
def mulProg (a0 : Memref sig .tc .vmem S2048x512 .bf16) (a1 : Memref sig .tc .vmem S2048x4 .bf16)
    (a2 : Memref sig .tc .vmem S4x512x1024 .bf16) (k : Code F) : Code F :=
  Prog.op (.load a0 (Rect.unit (s := S2048x512) ![0, 0] S2048x512.size inb_S2048x512_S2048x512_0_0).toLoadRect (View.loadsAt_vmem h_S2048x512)) fun x0 =>
  Prog.op (.load a1 (Rect.unit (s := S2048x4) ![0, 0] S2048x1.size inb_S2048x4_S2048x1_0_0).toLoadRect (View.loadsAt_vmem h_S2048x1)) fun m0 =>
  Prog.op (.load a2 (Rect.unit (s := S4x512x1024) ![0, 0, 0] S1x512x1024.size inb_S4x512x1024_S1x512x1024_0_0_0).toLoadRect (View.loadsAt_vmem h_S1x512x1024)) fun w0 =>
  Prog.op (.load a0 (Rect.unit (s := S2048x512) ![0, 0] S2048x512.size inb_S2048x512_S2048x512_0_0).toLoadRect (View.loadsAt_vmem h_S2048x512)) fun x1 =>
  Prog.op (.load a1 (Rect.unit (s := S2048x4) ![0, 1] S2048x1.size inb_S2048x4_S2048x1_0_1).toLoadRect (View.loadsAt_vmem h_S2048x1)) fun m1 =>
  Prog.op (.load a2 (Rect.unit (s := S4x512x1024) ![1, 0, 0] S1x512x1024.size inb_S4x512x1024_S1x512x1024_1_0_0).toLoadRect (View.loadsAt_vmem h_S1x512x1024)) fun w1 =>
  Prog.op (.load a0 (Rect.unit (s := S2048x512) ![0, 0] S2048x512.size inb_S2048x512_S2048x512_0_0).toLoadRect (View.loadsAt_vmem h_S2048x512)) fun x2 =>
  Prog.op (.load a1 (Rect.unit (s := S2048x4) ![0, 2] S2048x1.size inb_S2048x4_S2048x1_0_2).toLoadRect (View.loadsAt_vmem h_S2048x1)) fun m2 =>
  Prog.op (.load a2 (Rect.unit (s := S4x512x1024) ![2, 0, 0] S1x512x1024.size inb_S4x512x1024_S1x512x1024_2_0_0).toLoadRect (View.loadsAt_vmem h_S1x512x1024)) fun w2 =>
  Prog.op (.load a0 (Rect.unit (s := S2048x512) ![0, 0] S2048x512.size inb_S2048x512_S2048x512_0_0).toLoadRect (View.loadsAt_vmem h_S2048x512)) fun x3 =>
  Prog.op (.load a1 (Rect.unit (s := S2048x4) ![0, 3] S2048x1.size inb_S2048x4_S2048x1_0_3).toLoadRect (View.loadsAt_vmem h_S2048x1)) fun m3 =>
  Prog.op (.load a2 (Rect.unit (s := S4x512x1024) ![3, 0, 0] S1x512x1024.size inb_S4x512x1024_S1x512x1024_3_0_0).toLoadRect (View.loadsAt_vmem h_S1x512x1024)) fun w3 =>
  Prog.op (.load redM (Rect.unit (s := S8x256x1024) ![0, 0, 0] S8x256x1024.size inb_S8x256x1024_S8x256x1024_0_0_0).toLoadRect (View.loadsAt_vmem h_S8x256x1024)) fun _ =>
  Prog.op (.store redM (Rect.unit (s := S8x256x1024) ![0, 0, 0] S8x256x1024.size inb_S8x256x1024_S8x256x1024_0_0_0)
    (k0_pay4 (k0_pay2 x0 m0 w0) (k0_pay3 x1) m1 w1 x2 m2 w2 x3 m3 w3) Finset.univ
    (View.stores_vmem h_S8x256x1024 ((Memref.isWhole_whole cc0_scratch0).storeExact_slice rfl _ packedbf16_S8x256x1024_S8x256x1024_0_0_0) (fun _ => rfl)) (.inl rfl)) fun _ => k

/-- The end: the whole accumulator loaded, widened and stored over the result's block. -/
def outProg (a3 : Memref sig .tc .vmem S2048x1024 .f32) : Code F :=
  Prog.op (.load redM (Rect.unit (s := S8x256x1024) ![0, 0, 0] S8x256x1024.size inb_S8x256x1024_S8x256x1024_0_0_0).toLoadRect (View.loadsAt_vmem h_S8x256x1024)) fun v =>
  Prog.op (.load a3 (Rect.unit (s := S2048x1024) ![0, 0] S2048x1024.size inb_S2048x1024_S2048x1024_0_0).toLoadRect (View.loadsAt_vmem h_S2048x1024)) fun _ =>
  Prog.op (.store a3 (Rect.unit (s := S2048x1024) ![0, 0] S2048x1024.size inb_S2048x1024_S2048x1024_0_0) (k0_pay1 v) Finset.univ
    (View.stores_vmem_bits_univ h_S2048x1024 rfl) (.inl rfl)) fun _ => Prog.ret ⟨⟩

/-- A device by the word the kernel computed. -/
abbrev dv (n : ℕ) (h : n < nD) : Dev nD := ⟨n, h⟩

/-- What a device runs once it knows its number. -/
def chain (c : Dev nD) (a0 : Memref sig .tc .vmem S2048x512 .bf16) (a1 : Memref sig .tc .vmem S2048x4 .bf16)
    (a2 : Memref sig .tc .vmem S4x512x1024 .bf16) (a3 : Memref sig .tc .vmem S2048x1024 .f32) : Code F :=
  barProg (dv (k0_dev1 c) (k0_dev1_lt c)) (dv (k0_dev2 c) (k0_dev2_lt c)) <| mulProg a0 a1 a2 <|
  rsAt c (dv (k0_dev3 c) (k0_dev3_lt c)) 0 <| giveProg (dv (k0_dev4 c) (k0_dev4_lt c)) <|
  rsAt c (dv (k0_dev5 c) (k0_dev5_lt c)) 1 <| giveProg (dv (k0_dev6 c) (k0_dev6_lt c)) <|
  takeProg <| rsAt c (dv (k0_dev7 c) (k0_dev7_lt c)) 2 <| giveProg (dv (k0_dev8 c) (k0_dev8_lt c)) <|
  takeProg <| rsAt c (dv (k0_dev9 c) (k0_dev9_lt c)) 3 <| giveProg (dv (k0_dev10 c) (k0_dev10_lt c)) <|
  takeProg <| rsAt c (dv (k0_dev11 c) (k0_dev11_lt c)) 4 <| giveProg (dv (k0_dev12 c) (k0_dev12_lt c)) <|
  takeProg <| rsAt c (dv (k0_dev13 c) (k0_dev13_lt c)) 5 <|
  takeProg <| rsAt c (dv (k0_dev14 c) (k0_dev14_lt c)) 6 <|
  agAt c (dv (k0_dev15 c) (k0_dev15_lt c)) 0 <| giveProg (dv (k0_dev16 c) (k0_dev16_lt c)) <|
  agAt c (dv (k0_dev17 c) (k0_dev17_lt c)) 1 <| giveProg (dv (k0_dev18 c) (k0_dev18_lt c)) <|
  takeProg <| agAt c (dv (k0_dev19 c) (k0_dev19_lt c)) 2 <| giveProg (dv (k0_dev20 c) (k0_dev20_lt c)) <|
  takeProg <| agAt c (dv (k0_dev21 c) (k0_dev21_lt c)) 3 <| giveProg (dv (k0_dev22 c) (k0_dev22_lt c)) <|
  takeProg <| agAt c (dv (k0_dev23 c) (k0_dev23_lt c)) 4 <| giveProg (dv (k0_dev24 c) (k0_dev24_lt c)) <|
  takeProg <| agAt c (dv (k0_dev25 c) (k0_dev25_lt c)) 5 <|
  takeProg <| agAt c (dv (k0_dev26 c) (k0_dev26_lt c)) 6 <|
  outProg a3

set_option maxRecDepth 65536 in
/-- The kernel body is the chain. -/
theorem body_chain (a0 : Memref sig .tc .vmem S2048x512 .bf16) (h0 : a0.IsWhole) (a1 : Memref sig .tc .vmem S2048x4 .bf16) (h1 : a1.IsWhole)
    (a2 : Memref sig .tc .vmem S4x512x1024 .bf16) (h2 : a2.IsWhole) (a3 : Memref sig .tc .vmem S2048x1024 .f32) (h3 : a3.IsWhole) :
    cc0_body (F := F) a0 h0 a1 h1 a2 h2 a3 h3 redM (Memref.isWhole_whole _) comM (Memref.isWhole_whole _) cc0_scratch2 cc0_scratch3
      cc0_scratch4 cc0_scratch5 cc0_scratch6 = Prog.op .deviceId fun c => chain c a0 a1 a2 a3 := by
  rfl

end Cert.KernelIdeal.Talk

end
-- ==== Proof.Core.lean ====
/- One step of the ring, between the resources it takes and those it leaves. -/
module

public import proofs.«01_k».proof.Proof.Chain

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The records every device shares -/

def barEmb : Dev nD ↪ GSem nD τ sig := ⟨barC, fun a b h => (Prod.mk.inj (Prod.mk.inj h).1).1⟩
/-- The cells taken over at the region's entry, numbered. -/
def scL : Fin 9 → SemLoc sig := ![.reg creS, .dma (rsS 0), .dma (rsS 1), .dma (rsV 0), .dma (rsV 1), .dma (agS 0), .dma (agS 1), .dma (agV 0), .dma (agV 1)]
theorem scL_inj : Function.Injective scL := by decide
def scEmb : Dev nD × Fin 9 ↪ GSem nD τ sig :=
  ⟨fun x => ((x.1 : Thread nD τ), scL x.2), fun a b h =>
    Prod.ext (Prod.mk.inj (Prod.mk.inj h).1).1 (scL_inj (Prod.mk.inj h).2)⟩
def barCells : Finset (GSem nD τ sig) := Finset.univ.map barEmb
def scCells : Finset (GSem nD τ sig) := Finset.univ.map scEmb
def cells : Finset (GSem nD τ sig) := barCells ∪ scCells

theorem bar_mem (c : Dev nD) : barC c ∈ cells := Finset.mem_union_left _ (Finset.mem_map_of_mem barEmb (Finset.mem_univ c))
theorem sc_mem (c : Dev nD) (i : Fin 9) : ((c : Thread nD τ), scL i) ∈ cells :=
  Finset.mem_union_right _ (Finset.mem_map_of_mem scEmb (Finset.mem_univ (c, i)))
theorem cre_mem (c : Dev nD) : creC c ∈ cells := sc_mem c 0
theorem rsS_mem (c : Dev nD) (p : Fin 2) : rsSC c p ∈ cells := by fin_cases p; exacts [sc_mem c 1, sc_mem c 2]
theorem rsV_mem (c : Dev nD) (p : Fin 2) : rsVC c p ∈ cells := by fin_cases p; exacts [sc_mem c 3, sc_mem c 4]
theorem agS_mem (c : Dev nD) (p : Fin 2) : agSC c p ∈ cells := by fin_cases p; exacts [sc_mem c 5, sc_mem c 6]
theorem agV_mem (c : Dev nD) (p : Fin 2) : agVC c p ∈ cells := by fin_cases p; exacts [sc_mem c 7, sc_mem c 8]
theorem key_mem (c : Dev nD) (n : ℕ) (h : n < 9) : (c, n) ∈ keys := Finset.mem_product.mpr ⟨Finset.mem_univ _, Finset.mem_range.mpr h⟩

variable (A : Dev nD → Vec F S8x256x1024 .bf16) (κ : GSem nD τ sig → ℕ) (ι : Key → ℕ)

/-- The records of the cells and slots, and the levels. -/
def env : sProp 𝕄 :=
  iprop((bigSep cells fun g => cellInv ER (rd A) (κ g) g) ∗ (bigSep keys fun k => Release.slotInv ES (ι k) k (Sl k)) ∗ levAts L lv)

instance env_persistent : BI.Persistent (env A κ ι) := by unfold env; infer_instance

theorem cells_at {g : GSem nD τ sig} (hg : g ∈ cells) : (bigSep cells fun g => (cellInv ER (rd A) (κ g) g : sProp 𝕄)) ⊢ cellInv ER (rd A) (κ g) g :=
  bigSep_elim hg
theorem slots_at {k : Key} (hk : k ∈ keys) : (bigSep keys fun k => (Release.slotInv ES (ι k) k (Sl k) : sProp 𝕄)) ⊢ Release.slotInv ES (ι k) k (Sl k) :=
  bigSep_elim hk
theorem env_cell {g : GSem nD τ sig} (hg : g ∈ cells) : env A κ ι ⊢ cellInv ER (rd A) (κ g) g := by
  unfold env; iintro ⟨H, -, -⟩; iapply (cells_at A κ hg); iexact H
theorem env_slot {k : Key} (hk : k ∈ keys) : env A κ ι ⊢ Release.slotInv ES (ι k) k (Sl k) := by
  unfold env; iintro ⟨-, H, -⟩; iapply (slots_at ι hk); iexact H
theorem env_lev : env A κ ι ⊢ levAts L lv := by unfold env; iintro ⟨-, -, H⟩; iexact H

/-! ## Running -/

abbrev 𝒱₀ : Variants := Variants.none
abbrev run (c : Dev nD) (p : Code F) (Q : PUnit → sProp 𝕄) : sProp 𝕄 :=
  wp frame (wpE (defs₀ (F := F)) 𝒱₀ (c : Thread nD τ) none) Set.univ p Q

/-- What is owed, whatever has been waited for. -/
def ow (c : Dev nD) (O : CellTallies nD τ sig ℕ) : sProp 𝕄 := iprop(∃ W, owes (c : Thread nD τ) O W)

theorem pts_redQ (c j : Dev nD) (f : Buf (Elt F) ((redU j).view.loc (c : Thread nD τ))) :
    ((redQ j).view.loc (c : Thread nD τ) ↦[(redQ j).view.set]{fullShare} f : sProp 𝕄)
      = ((redU j).view.loc (c : Thread nD τ) ↦[(redU j).view.set]{fullShare} f) :=
  congrArg (fun S => ((redU j).view.loc (c : Thread nD τ) ↦[S]{fullShare} f : sProp 𝕄)) (View.set_reshape _ _)
theorem pts_comQ (c : Dev nD) (p : Fin 2) (f : Buf (Elt F) ((comU p).view.loc (c : Thread nD τ))) :
    ((comQ p).view.loc (c : Thread nD τ) ↦[(comQ p).view.set]{fullShare} f : sProp 𝕄)
      = ((comU p).view.loc (c : Thread nD τ) ↦[(comU p).view.set]{fullShare} f) :=
  congrArg (fun S => ((comU p).view.loc (c : Thread nD τ) ↦[S]{fullShare} f : sProp 𝕄)) (View.set_reshape _ _)

theorem single_rest {g : GSem nD τ sig} {r : ℕ} (h : (rd A).duties g r = {0}) :
    (bigSep ((rd A).duties g r \ ∅) (fun d => (rd A).payload g r d) : sProp 𝕄) ⊢ (rd A).payload g r 0 := by
  rw [Finset.sdiff_empty, h, bigSep_singleton]

/-- A position with that its round is reached. -/
def at' (g : GSem nD τ sig) (r : ℕ) : sProp 𝕄 := iprop(atPos ER g r ∅ 0 ∗ reached ER g r)

set_option maxHeartbeats 1600000 in
/-- Step `s` of the reduce-scatter. -/
theorem rs_core (c : Dev nD) (s b : ℕ) (hs : s < 7) (hb : ∀ σ, b ≤ σ → σ < 10 → 2 * s + 2 < 2 * stepOf σ + 3)
    (d : Dev nD) (o₁ o₂ : Fin 3 → ℕ) (h₁ h₂ w₁ w x) (hd : d = nx c) (ho₁ : o₁ = ![(bk c s).val, 0, 0])
    (ho₂ : o₂ = ![(bk c (s + 1)).val, 0, 0]) (k : Code F) (Q : PUnit → sProp 𝕄) :
    iprop(env A κ ι ∗ ow c (due c s b) ∗ redHas c (bk c s) (P A s c) ∗ comAny (nx c) (par s)
        ∗ dutyTok ER (rsSC c (par s)) (s / 2) 0 ∗ dutyTok ER (rsVC (nx c) (par s)) (s / 2) 0 ∗ reached ER (rsVC (nx c) (par s)) (s / 2)
        ∗ at' (rsSC c (par s)) (s / 2) ∗ at' (rsVC c (par s)) (s / 2) ∗ cred (tallyAt (rsVC c (par s)) s N)
        ∗ redHas c (bk c (s + 1)) (chunk (A c) (bk c (s + 1))) ∗ Release.readerAt ES (c, s + 2) 0)
      ⊢ iprop(((ow c (due c (s + 1) b) ∗ redHas c (bk c (s + 1)) (P A (s + 1) c) ∗ comHas c (par s) (P A s (pv c))
          ∗ at' (rsSC c (par s)) (s / 2 + 1) ∗ at' (rsVC c (par s)) (s / 2 + 1) ∗ Release.released ES (c, s + 2) 1) -∗ run c k Q)
        -∗ run c (rsProg d (par s) o₁ o₂ h₁ h₂ w₁ w x k) Q) := by
  subst hd ho₁ ho₂
  unfold rsProg run at' ow redHas comHas comAny Release.slot
  iintro ⟨#HE, ⟨%W, HO⟩, ⟨%fs, %efs, Hs⟩, ⟨%fd, Hd⟩, HtS, HtV, #HrV', ⟨HaS, #HrS⟩, ⟨HaV, -⟩, HcV, ⟨%f2, %ef2, H2⟩, Hrd⟩ Hk
  iapply (Rounds.wp_send_pointsTo 𝒱₀ ER (rd A) (c : Thread nD τ) none (c' := (nx c : Thread nD τ)) (src := redQ (bk c s)) (dst := comQ (par s))
      (sS := .dma (rsS (par s))) (sem := .dma (rsV (par s))) (q := fullShare) (fs := fs) (κ₁ := κ (rsSC c (par s))) (κ₂ := κ (rsVC (nx c) (par s)))
      (r₁ := s / 2) (r₂ := s / 2) (d₁ := 0) (d₂ := 0) (fd := fd)
      (by rw [duties_rsS A c hs]; exact Finset.mem_singleton_self _) (by rw [duties_rsV A (nx c) hs]; exact Finset.mem_singleton_self _)
      s 0 N rfl (amount_rsS A c _ _ _) (amount_rsV A (nx c) _ _ _) (O₀ := due c s b) (due c (s + 1) b)
      (by rw [due_copy c b (show s < 14 by omega)]; unfold recvC; rw [if_pos hs]) (W := W)
      (by rw [pts_redQ, pay_rsS]; exact (by unfold redAny Release.slot; iintro H; iexists fs; iexact H))
      (by rw [pts_comQ, pay_rsV, pv_nx]; unfold comHas; iintro H
          iexists (comQ (par s)).view.write (Elt F) fd ((redQ (bk c s)).view.read (Elt F) fs) Finset.univ
          isplitr
          · ipureintro; exact (read_landed (comU (par s)).view (redU (bk c s)).view _ fd fs).trans efs
          · iexact H)) $$ [HO Hs Hd HtS HtV]
  · isplitr; · iapply (env_cell A κ ι (rsS_mem c _)); iexact HE
    isplitr; · iapply (env_cell A κ ι (rsV_mem (nx c) _)); iexact HE
    isplitl [Hs]; · rw [pts_redQ]; iexact Hs
    isplitl [Hd]; · rw [pts_comQ]; iexact Hd
    isplitl [HO]; · iexact HO
    isplitl [HtS]; · iexact HtS
    isplitr; · iexact HrS
    isplitl [HtV]; · iexact HtV
    iexact HrV'
  iintro ⟨HcS, HO⟩
  iapply (Rounds.wp_wait_rest_token 𝒱₀ ER (rd A) (c : Thread nD τ) none (κ := κ (rsSC c (par s))) (k' := N)
      (wpE_waitDma2_eq (src := comQ (par s)) (dst := redQ (bk c s)) 𝒱₀ (c : Thread nD τ) none Set.univ) (Set.mem_univ _) 0 (O := due c (s + 1) b) (W := W) (R := s / 2) (m := 0) (T := ∅)
      ((Nat.zero_add _).trans (expect_rsS A c hs).symm)) $$ [HcS HO HaS]
  · isplitr; · iapply (env_cell A κ ι (rsS_mem c _)); iexact HE
    isplitl [HcS]; · iexact HcS
    isplitl [HO]; · iexact HO
    isplitr
    · iapply (mayWait_due c _ 0 (s + 1) b 0 (by decide) (le_of_eq (by show levOf (role (.dma _)) 0 = 0; rw [role_rsS]; rfl)) (by omega) (fun σ _ _ => by omega))
      iapply (env_lev A κ ι); iexact HE
    iexact HaS
  iintro ⟨HO, HaS, #HrS1, Hpay⟩
  ihave Hred := ((single_rest A (duties_rsS A c hs)).trans (Entails.of_eq (pay_rsS A c s 0))) $$ Hpay
  imod (Release.slot_release ES (S := Sl (c, s + 2)) (Es := Set.univ) (ι := ι (c, s + 2)) (Set.mem_univ _) (Sl_excl _) 0) $$ [Hred Hrd] with ⟨-, #Hrel⟩
  · isplitr; · iapply (env_slot A κ ι (key_mem c _ (by omega))); iexact HE
    isplitl [Hrd]; · iexact Hrd
    rw [Sl_red]; iexact Hred
  iapply (Rounds.wp_wait_rest_token 𝒱₀ ER (rd A) (c : Thread nD τ) none (κ := κ (rsVC c (par s))) (k' := N)
      (wpE_waitDma2_eq (src := redQ (bk c s)) (dst := comQ (par s)) 𝒱₀ (c : Thread nD τ) none Set.univ) (Set.mem_univ _) s (O := due c (s + 1) b) (R := s / 2) (m := 0) (T := ∅)
      ((Nat.zero_add _).trans (expect_rsV A c hs).symm)) $$ [HcV HO HaV]
  · isplitr; · iapply (env_cell A κ ι (rsV_mem c _)); iexact HE
    isplitl [HcV]; · iexact HcV
    isplitl [HO]; · iexact HO
    isplitr
    · iapply (mayWait_due c _ s (s + 1) b (2 * s + 2) (by omega) (le_of_eq (by show levOf (role (.dma _)) s = _; rw [role_rsV]; rfl)) (by omega) hb)
      iapply (env_lev A κ ι); iexact HE
    iexact HaV
  iintro ⟨HO, HaV, #HrV1, Hpay⟩
  ihave Hcom := ((single_rest A (duties_rsV A c hs)).trans (Entails.of_eq ((pay_rsV A c s 0).trans (by unfold comHas; rfl)))) $$ Hpay
  icases Hcom with ⟨%fc, %efc, Hc⟩
  iapply (wp_load_rect 𝒱₀ (c : Thread nD τ) none Set.univ (m := redM) (r := redR (bk c (s + 1))) (S := (redU (bk c (s + 1))).view.set) (f := f2)
    (Finset.Subset.refl _)) $$ H2
  iintro H2
  iapply (wp_load_rect 𝒱₀ (c : Thread nD τ) none Set.univ (m := comM) (r := comR (par s)) (S := (comU (par s)).view.set) (f := fc)
    (Finset.Subset.refl _)) $$ Hc
  iintro Hc
  iapply (wp_load_rect 𝒱₀ (c : Thread nD τ) none Set.univ (m := redM) (r := redR (bk c (s + 1))) (S := (redU (bk c (s + 1))).view.set) (f := f2)
    (Finset.Subset.refl _)) $$ H2
  iintro H2
  iapply (wp_store 𝒱₀ (c : Thread nD τ) none Set.univ (m := redM) (r := redR (bk c (s + 1))) (Mk := Finset.univ) (S := (redU (bk c (s + 1))).view.set)
    (f := f2) (Finset.Subset.refl _)) $$ H2
  iintro H2
  iapply Hk
  isplitl [HO]; · iexists _; iexact HO
  isplitl [H2]
  · iexists _; isplitr [H2]; rotate_left; · iexact H2
    ipureintro
    refine (View.read_write_univ _ _).trans ?_
    show k0_pay5 ((redU (bk c (s + 1))).view.read (Elt F) f2) ((comU (par s)).view.read (Elt F) fc) = _
    rw [ef2, efc]; rfl
  isplitl [Hc]
  · iexists fc; isplitr; · ipureintro; exact efc
    iexact Hc
  isplitl [HaS]; · isplitl [HaS]; · iexact HaS
                   iexact HrS1
  isplitl [HaV]; · isplitl [HaV]; · iexact HaV
                   iexact HrV1
  iexact Hrel

end Cert.KernelIdeal.Talk

end
-- ==== Proof.Credit.lean ====
/- The other steps: a hop of the all-gather, the credits, the barrier. -/
module

public import proofs.«01_k».proof.Proof.Core

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (A : Dev nD → Vec F S8x256x1024 .bf16) (κ : GSem nD τ sig → ℕ) (ι : Key → ℕ)

/-- The chunk passed on at step `t` is the neighbour's chunk `t` places left of itself. -/
theorem bk_nx (c : Dev nD) (t : ℕ) : bk (nx c) t = bk c (t + 7) := by
  unfold nx; rw [bk_bk]; exact bk_congr c (by omega)

theorem redHas_open (c j : Dev nD) (v : Vec F S1x256x1024 .bf16) : redHas c j v
    ⊢ iprop(∃ f : Buf (Elt F) ((redU j).view.loc (c : Thread nD τ)), ⌜(redU j).view.read (Elt F) f = v⌝
      ∗ ((redU j).view.loc (c : Thread nD τ) ↦[(redU j).view.set]{fullShare} f)) := by unfold redHas; exact .rfl

set_option maxHeartbeats 1600000 in
/-- Step `t` of the all-gather. -/
theorem ag_core (c : Dev nD) (t b : ℕ) (ht : t < 7) (hb : ∀ σ, b ≤ σ → σ < 10 → 2 * (7 + t) + 2 < 2 * stepOf σ + 3)
    (d : Dev nD) (o : Fin 3 → ℕ) (h w) (hd : d = nx c) (ho : o = ![(bk c (t + 7)).val, 0, 0]) (k : Code F) (Q : PUnit → sProp 𝕄) :
    iprop(env A κ ι ∗ ow c (due c (7 + t) b) ∗ redHas c (bk c (t + 7)) (Fn A (bk c (t + 7))) ∗ redAny (nx c) (bk (nx c) t)
        ∗ dutyTok ER (agSC c (par t)) (t / 2) 0 ∗ dutyTok ER (agVC (nx c) (par t)) (t / 2) 0 ∗ reached ER (agVC (nx c) (par t)) (t / 2)
        ∗ at' (agSC c (par t)) (t / 2) ∗ at' (agVC c (par t)) (t / 2) ∗ cred (tallyAt (agVC c (par t)) (7 + t) N))
      ⊢ iprop(((ow c (due c (7 + t + 1) b) ∗ redHas c (bk c (t + 7)) (Fn A (bk c (t + 7))) ∗ redHas c (bk c t) (Fn A (bk c t))
          ∗ at' (agSC c (par t)) (t / 2 + 1) ∗ at' (agVC c (par t)) (t / 2 + 1)) -∗ run c k Q)
        -∗ run c (agProg d (par t) o h w k) Q) := by
  obtain ⟨j, hj⟩ : ∃ j, j = bk c (t + 7) := ⟨_, rfl⟩
  rw [bk_nx, ← hj]
  rw [← hj] at ho
  subst hd ho
  unfold agProg run at' ow redAny Release.slot
  iintro ⟨#HE, ⟨%W, HO⟩, Hsrc, ⟨%fd, Hd⟩, HtS, HtV, #HrV', ⟨HaS, #HrS⟩, ⟨HaV, -⟩, HcV⟩ Hk
  ihave Hs := (redHas_open c j (Fn A j)) $$ Hsrc
  icases Hs with ⟨%fs, %efs, Hs⟩
  iapply (Rounds.wp_send_pointsTo 𝒱₀ ER (rd A) (c : Thread nD τ) none (c' := (nx c : Thread nD τ)) (src := redQ j) (dst := redQ j)
      (sS := .dma (agS (par t))) (sem := .dma (agV (par t))) (q := fullShare) (fs := fs) (κ₁ := κ (agSC c (par t))) (κ₂ := κ (agVC (nx c) (par t)))
      (r₁ := t / 2) (r₂ := t / 2) (d₁ := 0) (d₂ := 0) (fd := fd)
      (by rw [duties_agS A c ht]; exact Finset.mem_singleton_self _) (by rw [duties_agV A (nx c) ht]; exact Finset.mem_singleton_self _)
      (7 + t) 0 N rfl (amount_agS A c _ _ _) (amount_agV A (nx c) _ _ _) (O₀ := due c (7 + t) b) (due c (7 + t + 1) b)
      (by rw [due_copy c b (show 7 + t < 14 by omega)]; unfold recvC; rw [if_neg (by omega), Nat.add_sub_cancel_left]) (W := W)
      (by rw [pts_redQ, pay_agS, ← hj]; unfold redHas; iintro H; iexists fs
          isplitr
          · ipureintro; exact efs
          · iexact H)
      (by rw [pts_redQ, pay_agV, bk_nx, ← hj]; unfold redHas; iintro H
          iexists (redQ j).view.write (Elt F) fd ((redQ j).view.read (Elt F) fs) Finset.univ
          isplitr
          · ipureintro; exact (read_landed (redU j).view (redU j).view _ fd fs).trans efs
          · iexact H)) $$ [HO Hs Hd HtS HtV]
  · isplitr; · iapply (env_cell A κ ι (agS_mem c _)); iexact HE
    isplitr; · iapply (env_cell A κ ι (agV_mem (nx c) _)); iexact HE
    isplitl [Hs]; · rw [pts_redQ]; iexact Hs
    isplitl [Hd]; · rw [pts_redQ]; iexact Hd
    isplitl [HO]; · iexact HO
    isplitl [HtS]; · iexact HtS
    isplitr; · iexact HrS
    isplitl [HtV]; · iexact HtV
    iexact HrV'
  iintro ⟨HcS, HO⟩
  iapply (Rounds.wp_wait_rest_token 𝒱₀ ER (rd A) (c : Thread nD τ) none (κ := κ (agSC c (par t))) (k' := N)
      (wpE_waitDma2_eq (src := redQ j) (dst := redQ j) 𝒱₀ (c : Thread nD τ) none Set.univ) (Set.mem_univ _) 0
      (O := due c (7 + t + 1) b) (W := W) (R := t / 2) (m := 0) (T := ∅)
      ((Nat.zero_add _).trans (expect_agS A c ht).symm)) $$ [HcS HO HaS]
  · isplitr; · iapply (env_cell A κ ι (agS_mem c _)); iexact HE
    isplitl [HcS]; · iexact HcS
    isplitl [HO]; · iexact HO
    isplitr
    · iapply (mayWait_due c _ 0 (7 + t + 1) b 0 (by decide) (le_of_eq (by show levOf (role (.dma _)) 0 = 0; rw [role_agS]; rfl)) (by omega) (fun σ _ _ => by omega))
      iapply (env_lev A κ ι); iexact HE
    iexact HaS
  iintro ⟨HO, HaS, #HrS1, Hpay⟩
  ihave Hred := ((single_rest A (duties_agS A c ht)).trans (Entails.of_eq ((pay_agS A c t 0).trans (by rw [← hj])))) $$ Hpay
  iapply (Rounds.wp_wait_rest_token 𝒱₀ ER (rd A) (c : Thread nD τ) none (κ := κ (agVC c (par t))) (k' := N)
      (wpE_waitDma2_eq (src := redQ j) (dst := redQ j) 𝒱₀ (c : Thread nD τ) none Set.univ) (Set.mem_univ _) (7 + t)
      (O := due c (7 + t + 1) b) (R := t / 2) (m := 0) (T := ∅)
      ((Nat.zero_add _).trans (expect_agV A c ht).symm)) $$ [HcV HO HaV]
  · isplitr; · iapply (env_cell A κ ι (agV_mem c _)); iexact HE
    isplitl [HcV]; · iexact HcV
    isplitl [HO]; · iexact HO
    isplitr
    · iapply (mayWait_due c _ (7 + t) (7 + t + 1) b (2 * (7 + t) + 2) (by omega) (le_of_eq (by show levOf (role (.dma _)) (7 + t) = _; rw [role_agV]; rfl)) (by omega) hb)
      iapply (env_lev A κ ι); iexact HE
    iexact HaV
  iintro ⟨HO, HaV, #HrV1, Hpay⟩
  ihave Hnew := ((single_rest A (duties_agV A c ht)).trans (Entails.of_eq (pay_agV A c t 0))) $$ Hpay
  iapply Hk
  isplitl [HO]; · iexists _; iexact HO
  isplitl [Hred]; · iexact Hred
  isplitl [Hnew]; · iexact Hnew
  isplitl [HaS]; · isplitl [HaS]; · iexact HaS
                   iexact HrS1
  isplitl [HaV]; · iexact HaV
  iexact HrV1

/-! ## The credits -/

/-- The credit cell after `n` units taken: they came from some of the ten duties, each with its facts. -/
def crePos (c : Dev nD) (n : ℕ) : sProp 𝕄 :=
  if n < 10 then iprop(∃ T, atPos ER (creC c) 0 T n ∗ bigSep T (facts (nx c))) else atPos ER (creC c) 1 ∅ 0

theorem crePos_lt (c : Dev nD) {n : ℕ} (h : n < 10) : crePos (F := F) c n = iprop(∃ T, atPos ER (creC c) 0 T n ∗ bigSep T (facts (nx c))) := if_pos h
theorem crePos_ten (c : Dev nD) : crePos (F := F) c 10 = atPos ER (creC c) 1 ∅ 0 := if_neg (by decide)

/-- Everything about waiting, before step `g` with `n` units taken and `b` given. -/
def Cm (c : Dev nD) (g n b : ℕ) : sProp 𝕄 :=
  iprop(ow c (due c g b) ∗ crePos c n ∗ bigSep (Finset.Ico n 10) (fun σ => cred (tallyAt (creC c) (stepOf σ) 1))
    ∗ bigSep (Finset.Ico b 10) (fun σ => dutyTok ER (creC (pv c)) 0 σ) ∗ bigSep (Finset.range n) (fact (nx c)) ∗ bigSep (Finset.range b) (fact c)
    ∗ reached ER (creC (pv c)) 0)

/-- A new index beside a set. -/
theorem big_insert {I : Type} [DecidableEq I] {i : I} {s : Finset I} (h : i ∉ s) (Φ : I → sProp 𝕄) :
    bigSep (insert i s) Φ = iprop(Φ i ∗ bigSep s Φ) := bigSep_insert h
theorem pop {a n : ℕ} (h : a < n) (Φ : ℕ → sProp 𝕄) : bigSep (Finset.Ico a n) Φ ⊢ iprop(Φ a ∗ bigSep (Finset.Ico (a + 1) n) Φ) := by
  rw [Ico_pop h]; exact Entails.of_eq (big_insert (notMem_Ico a n) Φ)
theorem push (n : ℕ) (Φ : ℕ → sProp 𝕄) : iprop(Φ n ∗ bigSep (Finset.range n) Φ) ⊢ bigSep (Finset.range (n + 1)) Φ := by
  rw [Finset.range_add_one]; exact Entails.of_eq (big_insert Finset.notMem_range_self Φ).symm
theorem facts_at {r : Dev nD} {σ n : ℕ} (h : n ≤ σ) : facts (F := F) r σ ⊢ fact r n := by
  unfold facts; exact bigSep_elim (Finset.mem_range.mpr (by omega))

/-- Of `n + 1` units one is numbered `n` or more. -/
theorem exists_late {S : Finset ℕ} {n : ℕ} (h : n + 1 ≤ S.card) : ∃ σ ∈ S, n ≤ σ := by
  by_contra hc
  have : S ⊆ Finset.range n := fun σ hσ => Finset.mem_range.mpr (by by_contra hle; exact hc ⟨σ, hσ, by omega⟩)
  have := Finset.card_le_card this
  rw [Finset.card_range] at this; omega

theorem fact_late {r : Dev nD} {S : Finset ℕ} {n : ℕ} (h : n + 1 ≤ S.card) : bigSep S (facts (F := F) r) ⊢ fact r n := by
  obtain ⟨σ, hσ, hn⟩ := exists_late h
  exact (bigSep_elim hσ).trans (facts_at hn)

set_option maxHeartbeats 1600000 in
/-- A unit of credit taken. -/
theorem take_step (c : Dev nD) (g n b : ℕ) (hn : n < 10) (hg : 2 * stepOf n + 3 < 2 * g + 2)
    (hb : ∀ σ, b ≤ σ → σ < 10 → 2 * stepOf n + 3 < 2 * stepOf σ + 3) (k : Code F) (Q : PUnit → sProp 𝕄) :
    iprop(env A κ ι ∗ Cm c g n b) ⊢ iprop((Cm c g (n + 1) b -∗ run c k Q) -∗ run c (takeProg k) Q) := by
  unfold Cm takeProg run ow
  iintro ⟨#HE, ⟨%W, HO⟩, Hpos, Hcr, Htk, #Hf, #Hown, #Hr⟩ Hk
  ihave Hcr' := (pop hn _) $$ Hcr
  icases Hcr' with ⟨Hc, Hcr⟩
  ihave Hpos' := (Entails.of_eq (crePos_lt c hn)) $$ Hpos
  icases Hpos' with ⟨%T, Ha, #HT⟩
  by_cases h9 : n + 1 < 10
  · iapply (Rounds.wp_wait 𝒱₀ ER (rd A) (c : Thread nD τ) none (κ := κ (creC c)) (wpE_semWait_eq (k := 1) 𝒱₀ (c : Thread nD τ) none Set.univ) (Set.mem_univ _)
        (cr := Finsupp.single (stepOf n) 1) (O := due c g b) (W := W) {(SemLoc.reg creS, stepOf n)} (R := 0) (m := n) (T := T)
        (Util.total_single _ _) (image_single_subset _ _ _)) $$ [Hc HO Ha]
    · isplitr; · iapply (env_cell A κ ι (cre_mem c)); iexact HE
      isplitl [Hc]; · iexact Hc
      isplitl [HO]; · iexact HO
      isplitr
      · iapply (mayWait_due c (.reg creS) (stepOf n) g b (2 * stepOf n + 3) (stepOf_lt hn) (le_of_eq (lv_cre c _)) hg hb)
        iapply (env_lev A κ ι); iexact HE
      iexact Ha
    iintro %S ⟨%hS, HO, Ha, HS⟩
    obtain ⟨hTS, hSd, hcard⟩ := hS
    rw [expect_cre, duties_cre] at hcard
    have hSc : n + 1 ≤ S.card := by
      have h1 := Finset.card_sdiff_add_card_inter (Finset.range 10) S
      rw [duties_cre] at hSd
      rw [Finset.inter_eq_right.mpr hSd, Finset.card_range] at h1
      omega
    have hpay : bigSep (S \ T) (fun d => (rd A).payload (creC c) 0 d) ⊢ bigSep (S \ T) (facts (nx c)) :=
      bigSep_mono fun d _ => Entails.of_eq (pay_cre A c d)
    have hall : iprop(bigSep T (facts (nx c)) ∗ bigSep (S \ T) (facts (nx c))) ⊢ (bigSep S (facts (nx c)) : sProp 𝕄) :=
      (bigSep_sep_union T (S \ T)).trans (Entails.of_eq (congrArg (fun U => bigSep U (facts (nx c))) (Finset.union_sdiff_of_subset hTS)))
    ihave HS1 := hpay $$ HS
    ihave #HS2 := hall $$ [HS1]
    · isplitr; · iexact HT
      iexact HS1
    iapply Hk
    isplitl [HO]; · iexists _; iexact HO
    isplitl [Ha]
    · rw [crePos_lt c h9]; iexists S; isplitl [Ha]; · iexact Ha
      iexact HS2
    isplitl [Hcr]; · iexact Hcr
    isplitl [Htk]; · iexact Htk
    isplitr
    · iapply (push n (fact (nx c))); isplitr; · iapply (fact_late hSc); iexact HS2
      iexact Hf
    isplitr; · iexact Hown
    iexact Hr
  · obtain rfl : n = 9 := by omega
    iapply (Rounds.wp_wait_rest_token 𝒱₀ ER (rd A) (c : Thread nD τ) none (κ := κ (creC c)) (wpE_semWait_eq (k := 1) 𝒱₀ (c : Thread nD τ) none Set.univ)
        (Set.mem_univ _) (stepOf 9) (O := due c g b) (W := W) (R := 0) (m := 9) (T := T) (expect_cre A c).symm) $$ [Hc HO Ha]
    · isplitr; · iapply (env_cell A κ ι (cre_mem c)); iexact HE
      isplitl [Hc]; · iexact Hc
      isplitl [HO]; · iexact HO
      isplitr
      · iapply (mayWait_due c (.reg creS) (stepOf 9) g b (2 * stepOf 9 + 3) (stepOf_lt hn) (le_of_eq (lv_cre c _)) hg hb)
        iapply (env_lev A κ ι); iexact HE
      iexact Ha
    iintro ⟨HO, Ha, -, HS⟩
    have hpay : bigSep ((rd A).duties (creC c) 0 \ T) (fun d => (rd A).payload (creC c) 0 d) ⊢ bigSep (Finset.range 10 \ T) (facts (nx c)) := by
      rw [duties_cre]; exact bigSep_mono fun d _ => Entails.of_eq (pay_cre A c d)
    have hall : iprop(bigSep T (facts (nx c)) ∗ bigSep (Finset.range 10 \ T) (facts (nx c))) ⊢ (bigSep (Finset.range 10) (facts (nx c)) : sProp 𝕄) :=
      (bigSep_sep_union T (Finset.range 10 \ T)).trans (bigSep_subset (by rw [Finset.union_sdiff_self_eq_union]; exact Finset.subset_union_right))
    ihave HS1 := hpay $$ HS
    ihave #HS2 := hall $$ [HS1]
    · isplitr; · iexact HT
      iexact HS1
    iapply Hk
    isplitl [HO]; · iexists _; iexact HO
    isplitl [Ha]; · rw [crePos_ten]; iexact Ha
    isplitl [Hcr]; · iexact Hcr
    isplitl [Htk]; · iexact Htk
    isplitr
    · iapply (push 9 (fact (nx c))); isplitr; · iapply (fact_late (n := 9) (S := Finset.range 10) (by decide)); iexact HS2
      iexact Hf
    isplitr; · iexact Hown
    iexact Hr

/-- A unit of credit given. -/
theorem give_step (c : Dev nD) (g n b : ℕ) (hbl : b < 10) (d : Dev nD) (hd : d = pv c) (k : Code F) (Q : PUnit → sProp 𝕄) :
    iprop(env A κ ι ∗ Cm c g n b ∗ fact c b) ⊢ iprop((Cm c g n (b + 1) -∗ run c k Q) -∗ run c (giveProg d k) Q) := by
  subst hd
  unfold Cm giveProg run ow
  iintro ⟨#HE, ⟨⟨%W, HO⟩, Hpos, Hcr, Htk, #Hf, #Hown, #Hr⟩, #Hnew⟩ Hk
  ihave Htk' := (pop hbl _) $$ Htk
  icases Htk' with ⟨Ht, Htk⟩
  ihave #Hall := (push b (fact c)) $$ []
  · isplitr; · iexact Hnew
    iexact Hown
  iapply (Rounds.wp_signal 𝒱₀ ER (rd A) (c : Thread nD τ) none (dst := (pv c : Thread nD τ)) (sem := creS) (r := 0) (d := b) (k' := 1) (κ := κ (creC (pv c)))
      (by rw [duties_cre]; exact Finset.mem_range.mpr hbl) (amount_cre A (pv c) 0 b) (stepOf b) (O₀ := due c g b) (due c g (b + 1)) (due_credit c g hbl))
    $$ [HO Ht]
  · isplitr; · iapply (env_cell A κ ι (cre_mem (pv c))); iexact HE
    isplitl [HO]; · iexact HO
    isplitl [Ht]; · iexact Ht
    isplitr
    · rw [pay_cre, nx_pv]; unfold facts; iexact Hall
    iexact Hr
  iintro HO
  iapply Hk
  isplitl [HO]; · iexists _; iexact HO
  isplitl [Hpos]; · iexact Hpos
  isplitl [Hcr]; · iexact Hcr
  isplitl [Htk]; · iexact Htk
  isplitr; · iexact Hf
  isplitr; · iexact Hall
  iexact Hr

set_option maxHeartbeats 1600000 in
/-- The barrier: one unit to each neighbour, two taken. -/
theorem bar_step (c d d' : Dev nD) (hd : d = pv c) (hd' : d' = nx c) (k : Code F) (Q : PUnit → sProp 𝕄) :
    iprop(env A κ ι ∗ ow c (O₀ c) ∗ atPos ER (barC c) 0 ∅ 0 ∗ cred (tallyAt (barC c) 0 2)
        ∗ dutyTok ER (barC (pv c)) 0 0 ∗ dutyTok ER (barC (nx c)) 0 1 ∗ reached ER (barC (pv c)) 0 ∗ reached ER (barC (nx c)) 0
        ∗ hello c ∗ reached ER (creC c) 0)
      ⊢ iprop(((ow c (due c 0 0) ∗ atPos ER (barC c) 1 ∅ 0 ∗ hello (nx c) ∗ reached ER (creC (pv c)) 0) -∗ run c k Q)
        -∗ run c (barProg d d' k) Q) := by
  subst hd hd'
  unfold barProg run ow
  iintro ⟨#HE, ⟨%W, HO⟩, Ha, Hc, Ht0, Ht1, #Hr0, #Hr1, #Hh, #Hcr⟩ Hk
  iapply (Rounds.wp_signal 𝒱₀ ER (rd A) (c : Thread nD τ) none (dst := (pv c : Thread nD τ)) (sem := barS) (r := 0) (d := 0) (k' := 1) (κ := κ (barC (pv c)))
      (by rw [duties_bar]; decide) (amount_bar A (pv c) 0 0) 0 (O₀ := O₀ c) (due c 0 0 + tallyAt (barC (nx c)) 0 1) rfl)
    $$ [HO Ht0]
  · isplitr; · iapply (env_cell A κ ι (bar_mem (pv c))); iexact HE
    isplitl [HO]; · iexact HO
    isplitl [Ht0]; · iexact Ht0
    isplitr
    · rw [pay_bar0, nx_pv]; iexact Hh
    iexact Hr0
  iintro HO
  iapply (Rounds.wp_signal 𝒱₀ ER (rd A) (c : Thread nD τ) none (dst := (nx c : Thread nD τ)) (sem := barS) (r := 0) (d := 1) (k' := 1) (κ := κ (barC (nx c)))
      (by rw [duties_bar]; decide) (amount_bar A (nx c) 0 1) 0 (O₀ := due c 0 0 + tallyAt (barC (nx c)) 0 1) (due c 0 0) rfl)
    $$ [HO Ht1]
  · isplitr; · iapply (env_cell A κ ι (bar_mem (nx c))); iexact HE
    isplitl [HO]; · iexact HO
    isplitl [Ht1]; · iexact Ht1
    isplitr
    · rw [pay_bar1, pv_nx]; iexact Hcr
    iexact Hr1
  iintro HO
  iapply (Rounds.wp_wait_rest_token 𝒱₀ ER (rd A) (c : Thread nD τ) none (κ := κ (barC c)) (wpE_semWait_eq (k := 2) 𝒱₀ (c : Thread nD τ) none Set.univ)
      (Set.mem_univ _) 0 (O := due c 0 0) (W := W) (R := 0) (m := 0) (T := ∅) ((Nat.zero_add _).trans (expect_bar A c).symm)) $$ [Hc HO Ha]
  · isplitr; · iapply (env_cell A κ ι (bar_mem c)); iexact HE
    isplitl [Hc]; · iexact Hc
    isplitl [HO]; · iexact HO
    isplitr
    · iapply (mayWait_due c (.reg barS) 0 0 0 1 (by decide) (le_of_eq (by show levOf (role (.reg barS)) 0 = 1; rw [role_bar]; rfl)) (by decide) (fun σ _ _ => by omega))
      iapply (env_lev A κ ι); iexact HE
    iexact Ha
  iintro ⟨HO, Ha, -, Hpay⟩
  have hpay : bigSep ((rd A).duties (barC c) 0 \ ∅) (fun d => (rd A).payload (barC c) 0 d) ⊢ iprop(hello (nx c) ∗ reached ER (creC (pv c)) 0) := by
    rw [Finset.sdiff_empty, duties_bar, big_insert (by decide), bigSep_singleton, pay_bar0, pay_bar1]
  ihave Hp := hpay $$ Hpay
  icases Hp with ⟨Hh', Hc'⟩
  iapply Hk
  isplitl [HO]; · iexists _; iexact HO
  isplitl [Ha]; · iexact Ha
  isplitl [Hh']; · iexact Hh'
  iexact Hc'

end Cert.KernelIdeal.Talk

end
-- ==== Proof.Steps.lean ====
/- The state of a device between the steps of the ring, and each step as a passage from one state to the next. -/
module

public import proofs.«01_k».proof.Proof.Credit

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (A : Dev nD → Vec F S8x256x1024 .bf16) (κ : GSem nD τ sig → ℕ) (ι : Key → ℕ)

/-! ## Two parities used in turn -/

/-- Something counted for each parity, after `s` steps that used them in turn. -/
def two (Φ : Fin 2 → ℕ → sProp 𝕄) (s : ℕ) : sProp 𝕄 := iprop(Φ 0 ((s + 1) / 2) ∗ Φ 1 (s / 2))

/-- Step `s` takes its parity's count and puts back the next. -/
theorem two_take (Φ : Fin 2 → ℕ → sProp 𝕄) (s : ℕ) : two Φ s ⊢ iprop(Φ (par s) (s / 2) ∗ (Φ (par s) (s / 2 + 1) -∗ two Φ (s + 1))) := by
  unfold two
  rcases Nat.even_or_odd' s with ⟨m, rfl | rfl⟩
  · rw [show par (2 * m) = 0 from Fin.ext (by show 2 * m % 2 = 0; omega), show (2 * m + 1) / 2 = m by omega, show 2 * m / 2 = m by omega,
      show (2 * m + 1 + 1) / 2 = m + 1 by omega]
    iintro ⟨H0, H1⟩
    isplitl [H0]; · iexact H0
    iintro H; isplitl [H]; · iexact H
    iexact H1
  · rw [show par (2 * m + 1) = 1 from Fin.ext (by show (2 * m + 1) % 2 = 1; omega), show (2 * m + 1 + 1) / 2 = m + 1 by omega,
      show (2 * m + 1) / 2 = m by omega, show (2 * m + 1 + 1 + 1) / 2 = m + 1 by omega]
    iintro ⟨H0, H1⟩
    isplitl [H1]; · iexact H1
    iintro H; isplitl [H0]; · iexact H0
    iexact H

/-! ## The states -/

/-- What step `k` of the reduce-scatter brings along. -/
def rsIn (c : Dev nD) (k : ℕ) : sProp 𝕄 :=
  iprop(Release.readerAt ES (c, k + 2) 0 ∗ Release.writeTok ES (nx c, k % 2) (k / 2 + 1) ∗ dutyTok ER (rsSC c (par k)) (k / 2) 0
    ∗ dutyTok ER (rsVC (nx c) (par k)) (k / 2) 0 ∗ cred (tallyAt (rsVC c (par k)) k N))
/-- What step `k` of the all-gather brings along. -/
def agIn (c : Dev nD) (k : ℕ) : sProp 𝕄 :=
  iprop(Release.writeTok ES (nx c, k + 2) 1 ∗ dutyTok ER (agSC c (par k)) (k / 2) 0 ∗ dutyTok ER (agVC (nx c) (par k)) (k / 2) 0
    ∗ cred (tallyAt (agVC c (par k)) (7 + k) N))

/-- Before step `s` of the reduce-scatter, with `n` credits taken and `b` given. -/
def RS (c : Dev nD) (s n b : ℕ) : sProp 𝕄 :=
  iprop(Cm c s n b ∗ redHas c (bk c s) (P A s c) ∗ bigSep (Finset.Ico (s + 1) 8) (fun k => redHas c (bk c k) (chunk (A c) (bk c k)))
    ∗ bigSep (Finset.Ico s 7) (rsIn c) ∗ two (fun p => at' (rsSC c p)) s ∗ two (fun p => at' (rsVC c p)) s)
/-- Before step `t` of the all-gather. -/
def AG (c : Dev nD) (t n b : ℕ) : sProp 𝕄 :=
  iprop(Cm c (7 + t) n b ∗ bigSep (Finset.range (t + 1)) (fun k => redHas c (bk c (k + 7)) (Fn A (bk c (k + 7))))
    ∗ bigSep (Finset.Ico t 7) (agIn c) ∗ two (fun p => at' (agSC c p)) t ∗ two (fun p => at' (agVC c p)) t)
/-- The own landing slots' reading, after `s` landings given back. -/
def CS (c : Dev nD) (s : ℕ) : sProp 𝕄 := two (fun p r => Release.readerAt ES (c, p.val) (r + 1)) s

theorem popRange (n : ℕ) (Φ : ℕ → sProp 𝕄) : bigSep (Finset.range (n + 1)) Φ ⊢ iprop(Φ n ∗ bigSep (Finset.range n) Φ) := by
  rw [Finset.range_add_one]; exact Entails.of_eq (big_insert Finset.notMem_range_self Φ)

theorem known {c : Dev nD} {n σ : ℕ} (h : σ < n) : bigSep (Finset.range n) (fact (F := F) c) ⊢ fact c σ :=
  bigSep_elim (Finset.mem_range.mpr h)

/-- A fact the neighbour has told. -/
theorem Cm_fact {c : Dev nD} {g n b σ : ℕ} (h : σ < n) : Cm (F := F) c g n b ⊢ iprop(fact (nx c) σ ∗ Cm c g n b) := by
  unfold Cm
  iintro ⟨H1, H2, H3, H4, #H5, #H6, #H7⟩
  isplitr; · iapply (known h); iexact H5
  isplitl [H1]; · iexact H1
  isplitl [H2]; · iexact H2
  isplitl [H3]; · iexact H3
  isplitl [H4]; · iexact H4
  isplitr; · iexact H5
  isplitr; · iexact H6
  iexact H7
theorem Cm_at {c : Dev nD} {g n b : ℕ} : Cm (F := F) c g n b ⊢ iprop(ow c (due c g b) ∗ (∀ g', ow c (due c g' b) -∗ Cm c g' n b)) := by
  unfold Cm
  iintro ⟨H1, H2, H3, H4, #H5, #H6, #H7⟩
  isplitl [H1]; · iexact H1
  iintro %g' H1
  isplitl [H1]; · iexact H1
  isplitl [H2]; · iexact H2
  isplitl [H3]; · iexact H3
  isplitl [H4]; · iexact H4
  isplitr; · iexact H5
  isplitr; · iexact H6
  iexact H7
theorem RS_Cm {c : Dev nD} {s n b : ℕ} : RS A c s n b ⊢ iprop(Cm c s n b ∗ (∀ n' b', Cm c s n' b' -∗ RS A c s n' b')) := by
  unfold RS
  iintro ⟨H1, H⟩
  isplitl [H1]; · iexact H1
  iintro %n' %b' H1
  isplitl [H1]; · iexact H1
  iexact H
theorem AG_Cm {c : Dev nD} {t n b : ℕ} : AG A c t n b ⊢ iprop(Cm c (7 + t) n b ∗ (∀ n' b', Cm c (7 + t) n' b' -∗ AG A c t n' b')) := by
  unfold AG
  iintro ⟨H1, H⟩
  isplitl [H1]; · iexact H1
  iintro %n' %b' H1
  isplitl [H1]; · iexact H1
  iexact H

/-! ## One hop -/

set_option maxHeartbeats 800000 in
theorem rs_step (c : Dev nD) (s n b : ℕ) (hs : s < 7) (hb : ∀ σ, b ≤ σ → σ < 10 → 2 * s + 2 < 2 * stepOf σ + 3)
    (d : Dev nD) (o₁ o₂ : Fin 3 → ℕ) (h₁ h₂ w₁ w x) (hd : d = nx c) (ho₁ : o₁ = ![(bk c s).val, 0, 0])
    (ho₂ : o₂ = ![(bk c (s + 1)).val, 0, 0]) (k : Code F) (Q : PUnit → sProp 𝕄) :
    iprop(env A κ ι ∗ RS A c s n b ∗ Release.released ES (nx c, s % 2) (s / 2 + 1) ∗ reached ER (rsVC (nx c) (par s)) (s / 2))
      ⊢ iprop(((RS A c (s + 1) n b ∗ comAny c (par s) ∗ reached ER (rsVC c (par s)) (s / 2 + 1) ∗ Release.released ES (c, s + 2) 1) -∗ run c k Q)
        -∗ run c (rsProg d (par s) o₁ o₂ h₁ h₂ w₁ w x k) Q) := by
  unfold RS
  iintro ⟨#HE, ⟨HC, H1, Hr, Hin, HtS, HtV⟩, #Hrel, #HrV⟩ Hk
  ihave HC' := Cm_at $$ HC
  icases HC' with ⟨HO, HC⟩
  ihave Hr' := (pop (show s + 1 < 8 by omega) _) $$ Hr
  icases Hr' with ⟨H2, Hr⟩
  ihave Hin' := ((pop hs (rsIn c)).trans (Entails.of_eq (show _ = iprop((Release.readerAt ES (c, s + 2) 0 ∗ Release.writeTok ES (nx c, s % 2) (s / 2 + 1)
    ∗ dutyTok ER (rsSC c (par s)) (s / 2) 0 ∗ dutyTok ER (rsVC (nx c) (par s)) (s / 2) 0 ∗ cred (tallyAt (rsVC c (par s)) s N))
    ∗ bigSep (Finset.Ico (s + 1) 7) (rsIn c)) from rfl))) $$ Hin
  icases Hin' with ⟨⟨Hrd, Hw, Hd1, Hd2, Hcr⟩, Hin⟩
  ihave HtS' := (two_take _ s) $$ HtS
  icases HtS' with ⟨HaS, HtS⟩
  ihave HtV' := (two_take _ s) $$ HtV
  icases HtV' with ⟨HaV, HtV⟩
  imod (Release.slot_take ES (S := Sl (nx c, s % 2)) (Es := Set.univ) (ι := ι (nx c, s % 2)) (Set.mem_univ _) (s / 2 + 1)) $$ [Hw] with Hs
  · isplitr; · iapply (env_slot A κ ι (key_mem (nx c) _ (by omega))); iexact HE
    isplitr; · iexact Hrel
    iexact Hw
  ihave Hs' := (Entails.of_eq (Sl_com (nx c) s)) $$ Hs
  iapply (rs_core A κ ι c s b hs hb d o₁ o₂ h₁ h₂ w₁ w x hd ho₁ ho₂ k Q) $$ [HO H1 Hs' Hd1 Hd2 HaS HaV Hcr H2 Hrd]
  · isplitr; · iexact HE
    isplitl [HO]; · iexact HO
    isplitl [H1]; · iexact H1
    isplitl [Hs']; · iexact Hs'
    isplitl [Hd1]; · iexact Hd1
    isplitl [Hd2]; · iexact Hd2
    isplitr; · iexact HrV
    isplitl [HaS]; · iexact HaS
    isplitl [HaV]; · iexact HaV
    isplitl [Hcr]; · iexact Hcr
    isplitl [H2]; · iexact H2
    iexact Hrd
  unfold at'
  iintro ⟨HO, H1, Hc, HaS, ⟨HaV, #HrV1⟩, #Hrl⟩
  iapply Hk
  isplitl [HO HC H1 Hr Hin HtS HaS HtV HaV]
  · isplitl [HO HC]; · iapply HC; iexact HO
    isplitl [H1]; · iexact H1
    isplitl [Hr]; · iexact Hr
    isplitl [Hin]; · iexact Hin
    isplitl [HtS HaS]; · iapply HtS; iexact HaS
    iapply HtV; isplitl [HaV]; · iexact HaV
    iexact HrV1
  isplitl [Hc]; · iapply (comHas_any c (par s) _); iexact Hc
  isplitr; · iexact HrV1
  iexact Hrl

theorem agPut (c : Dev nD) (t : ℕ) :
    iprop(bigSep (Finset.range t) (fun k => redHas c (bk c (k + 7)) (Fn A (bk c (k + 7)))) ∗ redHas c (bk c (t + 7)) (Fn A (bk c (t + 7)))
      ∗ redHas c (bk c t) (Fn A (bk c t))) ⊢ bigSep (Finset.range (t + 1 + 1)) (fun k => redHas c (bk c (k + 7)) (Fn A (bk c (k + 7)))) := by
  have e : bk c (t + 1 + 7) = bk c t := bk_congr c (by omega)
  iintro ⟨H, H1, H2⟩
  iapply (push (t + 1) _)
  isplitl [H2]; · rw [e]; iexact H2
  iapply (push t _)
  isplitl [H1]; · iexact H1
  iexact H

set_option maxHeartbeats 800000 in
theorem ag_step (c : Dev nD) (t n b : ℕ) (ht : t < 7) (hb : ∀ σ, b ≤ σ → σ < 10 → 2 * (7 + t) + 2 < 2 * stepOf σ + 3)
    (d : Dev nD) (o : Fin 3 → ℕ) (h w) (hd : d = nx c) (ho : o = ![(bk c (t + 7)).val, 0, 0]) (k : Code F) (Q : PUnit → sProp 𝕄) :
    iprop(env A κ ι ∗ AG A c t n b ∗ Release.released ES (nx c, t + 2) 1 ∗ reached ER (agVC (nx c) (par t)) (t / 2))
      ⊢ iprop(((AG A c (t + 1) n b ∗ reached ER (agVC c (par t)) (t / 2 + 1)) -∗ run c k Q) -∗ run c (agProg d (par t) o h w k) Q) := by
  unfold AG
  iintro ⟨#HE, ⟨HC, Hr, Hin, HtS, HtV⟩, #Hrel, #HrV⟩ Hk
  ihave HC' := Cm_at $$ HC
  icases HC' with ⟨HO, HC⟩
  ihave Hr' := (popRange t _) $$ Hr
  icases Hr' with ⟨H2, Hr⟩
  ihave Hin' := ((pop ht (agIn c)).trans (Entails.of_eq (show _ = iprop((Release.writeTok ES (nx c, t + 2) 1
    ∗ dutyTok ER (agSC c (par t)) (t / 2) 0 ∗ dutyTok ER (agVC (nx c) (par t)) (t / 2) 0 ∗ cred (tallyAt (agVC c (par t)) (7 + t) N))
    ∗ bigSep (Finset.Ico (t + 1) 7) (agIn c)) from rfl))) $$ Hin
  icases Hin' with ⟨⟨Hw, Hd1, Hd2, Hcr⟩, Hin⟩
  ihave HtS' := (two_take _ t) $$ HtS
  icases HtS' with ⟨HaS, HtS⟩
  ihave HtV' := (two_take _ t) $$ HtV
  icases HtV' with ⟨HaV, HtV⟩
  imod (Release.slot_take ES (S := Sl (nx c, t + 2)) (Es := Set.univ) (ι := ι (nx c, t + 2)) (Set.mem_univ _) 1) $$ [Hw] with Hs
  · isplitr; · iapply (env_slot A κ ι (key_mem (nx c) _ (by omega))); iexact HE
    isplitr; · iexact Hrel
    iexact Hw
  ihave Hs' := (Entails.of_eq (Sl_red (nx c) t)) $$ Hs
  iapply (ag_core A κ ι c t b ht hb d o h w hd ho k Q) $$ [HO H2 Hs' Hd1 Hd2 HaS HaV Hcr]
  · isplitr; · iexact HE
    isplitl [HO]; · iexact HO
    isplitl [H2]; · iexact H2
    isplitl [Hs']; · iexact Hs'
    isplitl [Hd1]; · iexact Hd1
    isplitl [Hd2]; · iexact Hd2
    isplitr; · iexact HrV
    isplitl [HaS]; · iexact HaS
    isplitl [HaV]; · iexact HaV
    iexact Hcr
  unfold at'
  iintro ⟨HO, H1, H2, HaS, ⟨HaV, #HrV1⟩⟩
  iapply Hk
  isplitl [HO HC H1 H2 Hr Hin HtS HaS HtV HaV]
  · isplitl [HO HC]; · iapply HC; iexact HO
    isplitl [Hr H1 H2]
    · iapply (agPut A c t)
      isplitl [Hr]; · iexact Hr
      isplitl [H1]; · iexact H1
      iexact H2
    isplitl [Hin]; · iexact Hin
    isplitl [HtS HaS]; · iapply HtS; iexact HaS
    iapply HtV; isplitl [HaV]; · iexact HaV
    iexact HrV1
  iexact HrV1

/-! ## Giving back the landing slot -/

theorem fact_rs {c : Dev nD} {s : ℕ} (h : s < 5) : fact (F := F) c s
    = iprop(Release.released ES (c, s % 2) (s / 2 + 2) ∗ reached ER (rsVC c (par s)) (s / 2 + 1) ∗ Release.released ES (c, s + 2) 1) := if_pos h
theorem fact_ag {c : Dev nD} {t : ℕ} : fact (F := F) c (5 + t)
    = iprop(Release.released ES (c, 7) 1 ∗ Release.released ES (c, 8) 1 ∗ reached ER (agVC c (par t)) (t / 2 + 1)) := by
  unfold fact; rw [if_neg (by omega), Nat.add_sub_cancel_left]

theorem deposit (c : Dev nD) (s : ℕ) (hs : s < 5) :
    iprop(env A κ ι ∗ CS c s ∗ comAny c (par s) ∗ reached ER (rsVC c (par s)) (s / 2 + 1) ∗ Release.released ES (c, s + 2) 1)
      ⊢ (iprop(|={Set.univ}=> (CS c (s + 1) ∗ fact c s)) : sProp 𝕄) := by
  rw [fact_rs hs]
  unfold CS
  iintro ⟨#HE, Ht, Hc, #H1, #H2⟩
  ihave Ht' := (two_take _ s) $$ Ht
  icases Ht' with ⟨Ha, Ht⟩
  imod (Release.slot_release ES (S := Sl (c, s % 2)) (Es := Set.univ) (ι := ι (c, s % 2)) (Set.mem_univ _) (Sl_excl _) (s / 2 + 1)) $$ [Ha Hc] with ⟨Ha, #Hrel⟩
  · isplitr; · iapply (env_slot A κ ι (key_mem c _ (by omega))); iexact HE
    isplitl [Ha]; · iexact Ha
    rw [Sl_com]; iexact Hc
  imodintro
  isplitl [Ht Ha]; · iapply Ht; iexact Ha
  isplitr; · iexact Hrel
  isplitr; · iexact H1
  iexact H2

end Cert.KernelIdeal.Talk

end
-- ==== Proof.Phases.lean ====
/- The fourteen steps of the ring run one after another: from the accumulator's chunks before the reduce-scatter to the finished
   chunks after the all-gather. -/
module

public import proofs.«01_k».proof.Proof.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (A : Dev nD → Vec F S8x256x1024 .bf16) (κ : GSem nD τ sig → ℕ) (ι : Key → ℕ)

/-! ## Permission to send -/

/-- The barrier's permission for the first two steps of the reduce-scatter. -/
theorem hello_rs (r : Dev nD) {s : ℕ} (h : s < 2) :
    hello (F := F) r ⊢ iprop(Release.released ES (r, s % 2) (s / 2 + 1) ∗ reached ER (rsVC r (par s)) (s / 2)) := by
  unfold hello
  rcases (show s = 0 ∨ s = 1 by omega) with rfl | rfl
  · rw [show par 0 = 0 from rfl]
    iintro ⟨#H0, #H1, #H2, #H3, -⟩
    isplitr; · iexact H0
    iexact H2
  · rw [show par 1 = 1 from rfl]
    iintro ⟨#H0, #H1, #H2, #H3, -⟩
    isplitr; · iexact H1
    iexact H3
/-- The barrier's permission for the first two steps of the all-gather. -/
theorem hello_ag (r : Dev nD) {s : ℕ} (h : s < 2) : hello (F := F) r ⊢ reached ER (agVC r (par s)) (s / 2) := by
  unfold hello
  rcases (show s = 0 ∨ s = 1 by omega) with rfl | rfl
  · rw [show par 0 = 0 from rfl]; iintro ⟨-, -, -, -, #H, -⟩; iexact H
  · rw [show par 1 = 1 from rfl]; iintro ⟨-, -, -, -, -, #H⟩; iexact H
theorem par_two (m : ℕ) : par (m + 2) = par m := Fin.ext (by show (m + 2) % 2 = m % 2; omega)
/-- The permission a credit carries for the step two later. -/
theorem fact_next (r : Dev nD) {m : ℕ} (h : m < 5) :
    fact (F := F) r m ⊢ iprop(Release.released ES (r, (m + 2) % 2) ((m + 2) / 2 + 1) ∗ reached ER (rsVC r (par (m + 2))) ((m + 2) / 2)) := by
  rw [fact_rs h, par_two, show (m + 2) % 2 = m % 2 by omega, show (m + 2) / 2 = m / 2 + 1 by omega]
  iintro ⟨#H1, #H2, -⟩
  isplitr; · iexact H1
  iexact H2
theorem fact_next_ag (r : Dev nD) (m : ℕ) : fact (F := F) r (5 + m) ⊢ reached ER (agVC r (par (m + 2))) ((m + 2) / 2) := by
  rw [fact_ag, par_two, show (m + 2) / 2 = m / 2 + 1 by omega]
  iintro ⟨-, -, #H⟩; iexact H
/-- The chunk sent at step `m` of the reduce-scatter is free once its credit is in. -/
theorem fact_free (r : Dev nD) {m : ℕ} (h : m < 5) : fact (F := F) r m ⊢ Release.released ES (r, m + 2) 1 := by
  rw [fact_rs h]; iintro ⟨-, -, #H⟩; iexact H
theorem fact_free7 (r : Dev nD) : fact (F := F) r 5 ⊢ iprop(Release.released ES (r, 7) 1 ∗ Release.released ES (r, 8) 1) := by
  rw [show fact (F := F) r 5 = _ from fact_ag (t := 0)]
  iintro ⟨#H1, #H2, -⟩
  isplitr; · iexact H1
  iexact H2

theorem RS_fact {c : Dev nD} {s n b σ : ℕ} (h : σ < n) : RS A c s n b ⊢ iprop(fact (nx c) σ ∗ RS A c s n b) := by
  iintro H
  ihave H' := (RS_Cm A) $$ H
  icases H' with ⟨HC, H⟩
  ihave HC' := (Cm_fact h) $$ HC
  icases HC' with ⟨#Hf, HC⟩
  isplitr; · iexact Hf
  iapply H; iexact HC
theorem AG_fact {c : Dev nD} {t n b σ : ℕ} (h : σ < n) : AG A c t n b ⊢ iprop(fact (nx c) σ ∗ AG A c t n b) := by
  iintro H
  ihave H' := (AG_Cm A) $$ H
  icases H' with ⟨HC, H⟩
  ihave HC' := (Cm_fact h) $$ HC
  icases HC' with ⟨#Hf, HC⟩
  isplitr; · iexact Hf
  iapply H; iexact HC

/-! ## Credits, between the states -/

theorem RS_take (c : Dev nD) (s n b : ℕ) (hn : n < 10) (hg : 2 * stepOf n + 3 < 2 * s + 2)
    (hb : ∀ σ, b ≤ σ → σ < 10 → 2 * stepOf n + 3 < 2 * stepOf σ + 3) (k : Code F) (Q : PUnit → sProp 𝕄) :
    iprop(env A κ ι ∗ RS A c s n b) ⊢ iprop((RS A c s (n + 1) b -∗ run c k Q) -∗ run c (takeProg k) Q) := by
  iintro ⟨#HE, H⟩ Hk
  ihave H' := (RS_Cm A) $$ H
  icases H' with ⟨HC, H⟩
  iapply (take_step A κ ι c s n b hn hg hb k Q) $$ [HC]
  · isplitr; · iexact HE
    iexact HC
  iintro HC
  iapply Hk; iapply H; iexact HC
theorem AG_take (c : Dev nD) (t n b : ℕ) (hn : n < 10) (hg : 2 * stepOf n + 3 < 2 * (7 + t) + 2)
    (hb : ∀ σ, b ≤ σ → σ < 10 → 2 * stepOf n + 3 < 2 * stepOf σ + 3) (k : Code F) (Q : PUnit → sProp 𝕄) :
    iprop(env A κ ι ∗ AG A c t n b) ⊢ iprop((AG A c t (n + 1) b -∗ run c k Q) -∗ run c (takeProg k) Q) := by
  iintro ⟨#HE, H⟩ Hk
  ihave H' := (AG_Cm A) $$ H
  icases H' with ⟨HC, H⟩
  iapply (take_step A κ ι c (7 + t) n b hn hg hb k Q) $$ [HC]
  · isplitr; · iexact HE
    iexact HC
  iintro HC
  iapply Hk; iapply H; iexact HC
theorem RS_give (c : Dev nD) (s n b : ℕ) (hbl : b < 10) (d : Dev nD) (hd : d = pv c) (k : Code F) (Q : PUnit → sProp 𝕄) :
    iprop(env A κ ι ∗ RS A c s n b ∗ fact c b) ⊢ iprop((RS A c s n (b + 1) -∗ run c k Q) -∗ run c (giveProg d k) Q) := by
  iintro ⟨#HE, H, #Hf⟩ Hk
  ihave H' := (RS_Cm A) $$ H
  icases H' with ⟨HC, H⟩
  iapply (give_step A κ ι c s n b hbl d hd k Q) $$ [HC]
  · isplitr; · iexact HE
    isplitl [HC]; · iexact HC
    iexact Hf
  iintro HC
  iapply Hk; iapply H; iexact HC
theorem AG_give (c : Dev nD) (t n b : ℕ) (hbl : b < 10) (d : Dev nD) (hd : d = pv c) (k : Code F) (Q : PUnit → sProp 𝕄) :
    iprop(env A κ ι ∗ AG A c t n b ∗ fact c b) ⊢ iprop((AG A c t n (b + 1) -∗ run c k Q) -∗ run c (giveProg d k) Q) := by
  iintro ⟨#HE, H, #Hf⟩ Hk
  ihave H' := (AG_Cm A) $$ H
  icases H' with ⟨HC, H⟩
  iapply (give_step A κ ι c (7 + t) n b hbl d hd k Q) $$ [HC]
  · isplitr; · iexact HE
    isplitl [HC]; · iexact HC
    iexact Hf
  iintro HC
  iapply Hk; iapply H; iexact HC

/-! ## The steps as the kernel words them -/

theorem rs_at (c d : Dev nD) (i : Fin 7) (n b : ℕ) (hd : d = nx c) (hb : ∀ σ, b ≤ σ → σ < 10 → i.val ≤ stepOf σ) (k : Code F) (Q : PUnit → sProp 𝕄) :
    iprop(env A κ ι ∗ RS A c i.val n b ∗ Release.released ES (nx c, i.val % 2) (i.val / 2 + 1) ∗ reached ER (rsVC (nx c) (par i.val)) (i.val / 2))
      ⊢ iprop(((RS A c (i.val + 1) n b ∗ comAny c (par i.val) ∗ reached ER (rsVC c (par i.val)) (i.val / 2 + 1) ∗ Release.released ES (c, i.val + 2) 1)
          -∗ run c k Q) -∗ run c (rsAt c d i k) Q) :=
  rs_step A κ ι c i.val n b i.isLt (fun σ h1 h2 => by have := hb σ h1 h2; omega) d _ _ _ _ _ _ _ hd (off1_eq c i) (off2_eq c i) k Q

theorem ag_at (c d : Dev nD) (i : Fin 7) (n b : ℕ) (hd : d = nx c) (hb : ∀ σ, b ≤ σ → σ < 10 → 7 + i.val ≤ stepOf σ) (k : Code F) (Q : PUnit → sProp 𝕄) :
    iprop(env A κ ι ∗ AG A c i.val n b ∗ Release.released ES (nx c, i.val + 2) 1 ∗ reached ER (agVC (nx c) (par i.val)) (i.val / 2))
      ⊢ iprop(((AG A c (i.val + 1) n b ∗ reached ER (agVC c (par i.val)) (i.val / 2 + 1)) -∗ run c k Q) -∗ run c (agAt c d i k) Q) :=
  ag_step A κ ι c i.val n b i.isLt (fun σ h1 h2 => by have := hb σ h1 h2; omega) d _ _ _ hd (off3_eq c i) k Q

/-- A step of the reduce-scatter that gives a credit at its end. -/
theorem rs_at_give (c d d' : Dev nD) (i : Fin 7) (n : ℕ) (hi : i.val < 5) (hd : d = nx c) (hd' : d' = pv c) (k : Code F) (Q : PUnit → sProp 𝕄) :
    iprop(env A κ ι ∗ RS A c i.val n i.val ∗ CS c i.val ∗ Release.released ES (nx c, i.val % 2) (i.val / 2 + 1) ∗ reached ER (rsVC (nx c) (par i.val)) (i.val / 2))
      ⊢ iprop(((RS A c (i.val + 1) n (i.val + 1) ∗ CS c (i.val + 1)) -∗ run c k Q) -∗ run c (rsAt c d i (giveProg d' k)) Q) := by
  iintro ⟨#HE, H, HS, #Hr, #Hv⟩ Hk
  iapply (rs_at A κ ι c d i n i.val hd (fun σ h1 h2 => by unfold stepOf; split <;> omega) (giveProg d' k) Q) $$ [H]
  · isplitr; · iexact HE
    isplitl [H]; · iexact H
    isplitr; · iexact Hr
    iexact Hv
  iintro ⟨H, Hc, #Hv1, #Hrel⟩
  imod (deposit A κ ι c i.val hi) $$ [HS Hc] with ⟨HS, #Hf⟩
  · isplitr; · iexact HE
    isplitl [HS]; · iexact HS
    isplitl [Hc]; · iexact Hc
    isplitr; · iexact Hv1
    iexact Hrel
  iapply (RS_give A κ ι c (i.val + 1) n i.val (by omega) d' hd' k Q) $$ [H]
  · isplitr; · iexact HE
    isplitl [H]; · iexact H
    iexact Hf
  iintro H
  iapply Hk
  isplitl [H]; · iexact H
  iexact HS

/-- The first two steps of the reduce-scatter: on the barrier's word. -/
theorem phase1 (c d d' : Dev nD) (i : Fin 7) (hi : i.val < 2) (hd : d = nx c) (hd' : d' = pv c) (k : Code F) (Q : PUnit → sProp 𝕄) :
    iprop(env A κ ι ∗ hello (nx c) ∗ RS A c i.val 0 i.val ∗ CS c i.val)
      ⊢ iprop(((RS A c (i.val + 1) 0 (i.val + 1) ∗ CS c (i.val + 1)) -∗ run c k Q) -∗ run c (rsAt c d i (giveProg d' k)) Q) := by
  iintro ⟨#HE, #HH, H, HS⟩
  ihave #Hp := (hello_rs (nx c) hi) $$ []; · iexact HH
  iapply (rs_at_give A κ ι c d d' i 0 (by omega) hd hd' k Q)
  isplitr; · iexact HE
  isplitl [H]; · iexact H
  isplitl [HS]; · iexact HS
  iexact Hp

/-- The next three: after a credit. -/
theorem phase2 (c d d' : Dev nD) (i : Fin 7) (m : ℕ) (hm : i.val = m + 2) (hi : i.val < 5) (hd : d = nx c) (hd' : d' = pv c) (k : Code F) (Q : PUnit → sProp 𝕄) :
    iprop(env A κ ι ∗ RS A c i.val m i.val ∗ CS c i.val)
      ⊢ iprop(((RS A c (i.val + 1) (m + 1) (i.val + 1) ∗ CS c (i.val + 1)) -∗ run c k Q) -∗ run c (takeProg (rsAt c d i (giveProg d' k))) Q) := by
  iintro ⟨#HE, H, HS⟩ Hk
  iapply (RS_take A κ ι c i.val m i.val (by omega) (by unfold stepOf; split <;> omega) (fun σ h1 h2 => by unfold stepOf; split <;> split <;> omega) _ Q) $$ [H]
  · isplitr; · iexact HE
    iexact H
  iintro H
  ihave H' := (RS_fact A (Nat.lt_succ_self m)) $$ H
  icases H' with ⟨#Hf, H⟩
  ihave #Hp := ((fact_next (nx c) (show m < 5 by omega)).trans (Entails.of_eq (congrArg (fun s => iprop(Release.released ES (nx c, s % 2) (s / 2 + 1)
    ∗ reached ER (rsVC (nx c) (par s)) (s / 2))) hm.symm))) $$ []; · iexact Hf
  iapply (rs_at_give A κ ι c d d' i (m + 1) hi hd hd' k Q) $$ [H HS] [Hk]
  · isplitr; · iexact HE
    isplitl [H]; · iexact H
    isplitl [HS]; · iexact HS
    iexact Hp
  iexact Hk

/-- The last two: after a credit, giving none. -/
theorem phase3 (c d : Dev nD) (i : Fin 7) (m : ℕ) (hm : i.val = m + 2) (hi : 5 ≤ i.val) (hd : d = nx c) (k : Code F) (Q : PUnit → sProp 𝕄) :
    iprop(env A κ ι ∗ RS A c i.val m 5)
      ⊢ iprop(((RS A c (i.val + 1) (m + 1) 5 ∗ comAny c (par i.val) ∗ Release.released ES (c, i.val + 2) 1) -∗ run c k Q) -∗ run c (takeProg (rsAt c d i k)) Q) := by
  have hi7 := i.isLt
  iintro ⟨#HE, H⟩ Hk
  iapply (RS_take A κ ι c i.val m 5 (by omega) (by unfold stepOf; split <;> omega) (fun σ h1 h2 => by unfold stepOf; split <;> split <;> omega) _ Q) $$ [H]
  · isplitr; · iexact HE
    iexact H
  iintro H
  ihave H' := (RS_fact A (Nat.lt_succ_self m)) $$ H
  icases H' with ⟨#Hf, H⟩
  ihave #Hp := ((fact_next (nx c) (show m < 5 by omega)).trans (Entails.of_eq (congrArg (fun s => iprop(Release.released ES (nx c, s % 2) (s / 2 + 1)
    ∗ reached ER (rsVC (nx c) (par s)) (s / 2))) hm.symm))) $$ []; · iexact Hf
  iapply (rs_at A κ ι c d i (m + 1) 5 hd (fun σ h1 h2 => by unfold stepOf; split <;> omega) k Q) $$ [H]
  · isplitr; · iexact HE
    isplitl [H]; · iexact H
    iexact Hp
  iintro ⟨H, Hc, -, #Hrel⟩
  iapply Hk
  isplitl [H]; · iexact H
  isplitl [Hc]; · iexact Hc
  iexact Hrel

/-- A step of the all-gather that gives a credit at its end. -/
theorem ag_at_give (c d d' : Dev nD) (i : Fin 7) (n : ℕ) (hi : i.val < 5) (hd : d = nx c) (hd' : d' = pv c) (k : Code F) (Q : PUnit → sProp 𝕄) :
    iprop(env A κ ι ∗ (Release.released ES (c, 7) 1 ∗ Release.released ES (c, 8) 1) ∗ AG A c i.val n (5 + i.val)
        ∗ Release.released ES (nx c, i.val + 2) 1 ∗ reached ER (agVC (nx c) (par i.val)) (i.val / 2))
      ⊢ iprop((AG A c (i.val + 1) n (5 + (i.val + 1)) -∗ run c k Q) -∗ run c (agAt c d i (giveProg d' k)) Q) := by
  iintro ⟨#HE, ⟨#H7, #H8⟩, H, #Hr, #Hv⟩ Hk
  iapply (ag_at A κ ι c d i n (5 + i.val) hd (fun σ h1 h2 => by unfold stepOf; split <;> omega) (giveProg d' k) Q) $$ [H]
  · isplitr; · iexact HE
    isplitl [H]; · iexact H
    isplitr; · iexact Hr
    iexact Hv
  iintro ⟨H, #Hv1⟩
  iapply (AG_give A κ ι c (i.val + 1) n (5 + i.val) (by omega) d' hd' k Q) $$ [H]
  · isplitr; · iexact HE
    isplitl [H]; · iexact H
    rw [fact_ag]
    isplitr; · iexact H7
    isplitr; · iexact H8
    iexact Hv1
  iintro H
  iapply Hk; iexact H

theorem agphase1 (c d d' : Dev nD) (i : Fin 7) (hi : i.val < 2) (hd : d = nx c) (hd' : d' = pv c) (k : Code F) (Q : PUnit → sProp 𝕄) :
    iprop(env A κ ι ∗ hello (nx c) ∗ (Release.released ES (c, 7) 1 ∗ Release.released ES (c, 8) 1) ∗ AG A c i.val 5 (5 + i.val))
      ⊢ iprop((AG A c (i.val + 1) 5 (5 + (i.val + 1)) -∗ run c k Q) -∗ run c (agAt c d i (giveProg d' k)) Q) := by
  iintro ⟨#HE, #HH, #H78, H⟩
  ihave #Hv := (hello_ag (nx c) hi) $$ []; · iexact HH
  ihave H' := (AG_fact A (show i.val < 5 by omega)) $$ H
  icases H' with ⟨#Hf, H⟩
  ihave #Hr := (fact_free (nx c) (show i.val < 5 by omega)) $$ []; · iexact Hf
  iapply (ag_at_give A κ ι c d d' i 5 (by omega) hd hd' k Q)
  isplitr; · iexact HE
  isplitr; · iexact H78
  isplitl [H]; · iexact H
  isplitr; · iexact Hr
  iexact Hv

/-- What the credits taken before step `m + 2` of the all-gather say. -/
theorem ag_known (c : Dev nD) (m t n b : ℕ) (h5 : m < 5) (hn : n = m + 6) (ht : t = m + 2) :
    AG A c t n b ⊢ iprop(Release.released ES (nx c, t + 2) 1 ∗ reached ER (agVC (nx c) (par t)) (t / 2) ∗ AG A c t n b) := by
  subst hn ht
  iintro H
  ihave H' := (AG_fact A (show 5 + m < m + 6 by omega)) $$ H
  icases H' with ⟨#Hf, H⟩
  ihave #Hv := (fact_next_ag (nx c) m) $$ []; · iexact Hf
  ihave H' := (AG_fact A (show 5 < m + 6 by omega)) $$ H
  icases H' with ⟨#Hf5, H⟩
  ihave #H78 := (fact_free7 (nx c)) $$ []; · iexact Hf5
  icases H78 with ⟨#H7, #H8⟩
  by_cases hm : m + 2 < 5
  · ihave H' := (AG_fact A (show m + 2 < m + 6 by omega)) $$ H
    icases H' with ⟨#Hf', H⟩
    ihave #Hr := (fact_free (nx c) hm) $$ []; · iexact Hf'
    isplitr; · iexact Hr
    isplitr; · iexact Hv
    iexact H
  · rcases (show m = 3 ∨ m = 4 by omega) with rfl | rfl
    · isplitr; · iexact H7
      isplitr; · iexact Hv
      iexact H
    · isplitr; · iexact H8
      isplitr; · iexact Hv
      iexact H

theorem agphase2 (c d d' : Dev nD) (i : Fin 7) (m : ℕ) (hm : i.val = m + 2) (hi : i.val < 5) (hd : d = nx c) (hd' : d' = pv c) (k : Code F) (Q : PUnit → sProp 𝕄) :
    iprop(env A κ ι ∗ (Release.released ES (c, 7) 1 ∗ Release.released ES (c, 8) 1) ∗ AG A c i.val (m + 5) (5 + i.val))
      ⊢ iprop((AG A c (i.val + 1) (m + 6) (5 + (i.val + 1)) -∗ run c k Q) -∗ run c (takeProg (agAt c d i (giveProg d' k))) Q) := by
  iintro ⟨#HE, #H78, H⟩ Hk
  iapply (AG_take A κ ι c i.val (m + 5) (5 + i.val) (by omega) (by unfold stepOf; split <;> omega) (fun σ h1 h2 => by unfold stepOf; split <;> split <;> omega) _ Q) $$ [H]
  · isplitr; · iexact HE
    iexact H
  iintro H
  ihave H' := (ag_known A c m i.val (m + 6) _ (by omega) rfl hm) $$ H
  icases H' with ⟨#Hr, #Hv, H⟩
  iapply (ag_at_give A κ ι c d d' i (m + 6) hi hd hd' k Q) $$ [H] [Hk]
  · isplitr; · iexact HE
    isplitr; · iexact H78
    isplitl [H]; · iexact H
    isplitr; · iexact Hr
    iexact Hv
  iexact Hk

theorem agphase3 (c d : Dev nD) (i : Fin 7) (m : ℕ) (hm : i.val = m + 2) (hi : 5 ≤ i.val) (hd : d = nx c) (k : Code F) (Q : PUnit → sProp 𝕄) :
    iprop(env A κ ι ∗ AG A c i.val (m + 5) 10)
      ⊢ iprop((AG A c (i.val + 1) (m + 6) 10 -∗ run c k Q) -∗ run c (takeProg (agAt c d i k)) Q) := by
  have hi7 := i.isLt
  iintro ⟨#HE, H⟩ Hk
  iapply (AG_take A κ ι c i.val (m + 5) 10 (by omega) (by unfold stepOf; split <;> omega) (fun σ h1 h2 => by omega) _ Q) $$ [H]
  · isplitr; · iexact HE
    iexact H
  iintro H
  ihave H' := (ag_known A c m i.val (m + 6) _ (by omega) rfl hm) $$ H
  icases H' with ⟨#Hr, #Hv, H⟩
  iapply (ag_at A κ ι c d i (m + 6) 10 hd (fun σ h1 h2 => by omega) k Q) $$ [H]
  · isplitr; · iexact HE
    isplitl [H]; · iexact H
    isplitr; · iexact Hr
    iexact Hv
  iintro ⟨H, -⟩
  iapply Hk; iexact H

/-! ## The whole ring -/

/-- The reduce-scatter. -/
def rsRing (c : Dev nD) (k : Code F) : Code F :=
  rsAt c (dv (k0_dev3 c) (k0_dev3_lt c)) 0 <| giveProg (dv (k0_dev4 c) (k0_dev4_lt c)) <|
  rsAt c (dv (k0_dev5 c) (k0_dev5_lt c)) 1 <| giveProg (dv (k0_dev6 c) (k0_dev6_lt c)) <|
  takeProg <| rsAt c (dv (k0_dev7 c) (k0_dev7_lt c)) 2 <| giveProg (dv (k0_dev8 c) (k0_dev8_lt c)) <|
  takeProg <| rsAt c (dv (k0_dev9 c) (k0_dev9_lt c)) 3 <| giveProg (dv (k0_dev10 c) (k0_dev10_lt c)) <|
  takeProg <| rsAt c (dv (k0_dev11 c) (k0_dev11_lt c)) 4 <| giveProg (dv (k0_dev12 c) (k0_dev12_lt c)) <|
  takeProg <| rsAt c (dv (k0_dev13 c) (k0_dev13_lt c)) 5 <|
  takeProg <| rsAt c (dv (k0_dev14 c) (k0_dev14_lt c)) 6 k
/-- The all-gather. -/
def agRing (c : Dev nD) (k : Code F) : Code F :=
  agAt c (dv (k0_dev15 c) (k0_dev15_lt c)) 0 <| giveProg (dv (k0_dev16 c) (k0_dev16_lt c)) <|
  agAt c (dv (k0_dev17 c) (k0_dev17_lt c)) 1 <| giveProg (dv (k0_dev18 c) (k0_dev18_lt c)) <|
  takeProg <| agAt c (dv (k0_dev19 c) (k0_dev19_lt c)) 2 <| giveProg (dv (k0_dev20 c) (k0_dev20_lt c)) <|
  takeProg <| agAt c (dv (k0_dev21 c) (k0_dev21_lt c)) 3 <| giveProg (dv (k0_dev22 c) (k0_dev22_lt c)) <|
  takeProg <| agAt c (dv (k0_dev23 c) (k0_dev23_lt c)) 4 <| giveProg (dv (k0_dev24 c) (k0_dev24_lt c)) <|
  takeProg <| agAt c (dv (k0_dev25 c) (k0_dev25_lt c)) 5 <|
  takeProg <| agAt c (dv (k0_dev26 c) (k0_dev26_lt c)) 6 k

theorem devs_bar (c : Dev nD) : dv (k0_dev1 c) (k0_dev1_lt c) = pv c ∧ dv (k0_dev2 c) (k0_dev2_lt c) = nx c := by revert c; decide
theorem devs_rs (c : Dev nD) : dv (k0_dev3 c) (k0_dev3_lt c) = nx c ∧ dv (k0_dev4 c) (k0_dev4_lt c) = pv c
    ∧ dv (k0_dev5 c) (k0_dev5_lt c) = nx c ∧ dv (k0_dev6 c) (k0_dev6_lt c) = pv c ∧ dv (k0_dev7 c) (k0_dev7_lt c) = nx c
    ∧ dv (k0_dev8 c) (k0_dev8_lt c) = pv c ∧ dv (k0_dev9 c) (k0_dev9_lt c) = nx c ∧ dv (k0_dev10 c) (k0_dev10_lt c) = pv c
    ∧ dv (k0_dev11 c) (k0_dev11_lt c) = nx c ∧ dv (k0_dev12 c) (k0_dev12_lt c) = pv c ∧ dv (k0_dev13 c) (k0_dev13_lt c) = nx c
    ∧ dv (k0_dev14 c) (k0_dev14_lt c) = nx c := by revert c; decide
theorem devs_ag (c : Dev nD) : dv (k0_dev15 c) (k0_dev15_lt c) = nx c ∧ dv (k0_dev16 c) (k0_dev16_lt c) = pv c
    ∧ dv (k0_dev17 c) (k0_dev17_lt c) = nx c ∧ dv (k0_dev18 c) (k0_dev18_lt c) = pv c ∧ dv (k0_dev19 c) (k0_dev19_lt c) = nx c
    ∧ dv (k0_dev20 c) (k0_dev20_lt c) = pv c ∧ dv (k0_dev21 c) (k0_dev21_lt c) = nx c ∧ dv (k0_dev22 c) (k0_dev22_lt c) = pv c
    ∧ dv (k0_dev23 c) (k0_dev23_lt c) = nx c ∧ dv (k0_dev24 c) (k0_dev24_lt c) = pv c ∧ dv (k0_dev25 c) (k0_dev25_lt c) = nx c
    ∧ dv (k0_dev26 c) (k0_dev26_lt c) = nx c := by revert c; decide

set_option maxHeartbeats 1600000 in
/-- The reduce-scatter runs. -/
theorem rs_ring (c : Dev nD) (k : Code F) (Q : PUnit → sProp 𝕄) :
    iprop(env A κ ι ∗ hello (nx c) ∗ RS A c 0 0 0 ∗ CS c 0)
      ⊢ iprop(((RS A c 7 5 5 ∗ CS c 5 ∗ comAny c 1 ∗ comAny c 0 ∗ Release.released ES (c, 7) 1 ∗ Release.released ES (c, 8) 1) -∗ run c k Q)
        -∗ run c (rsRing c k) Q) := by
  obtain ⟨h3, h4, h5, h6, h7, h8, h9, h10, h11, h12, h13, h14⟩ := devs_rs c
  unfold rsRing
  iintro ⟨#HE, #HH, H, HS⟩ Hk
  iapply (phase1 A κ ι c _ _ 0 (by decide) h3 h4 _ Q) $$ [H HS]
  · isplitr; · iexact HE
    isplitr; · iexact HH
    isplitl [H]; · iexact H
    iexact HS
  iintro ⟨H, HS⟩
  iapply (phase1 A κ ι c _ _ 1 (by decide) h5 h6 _ Q) $$ [H HS]
  · isplitr; · iexact HE
    isplitr; · iexact HH
    isplitl [H]; · iexact H
    iexact HS
  iintro ⟨H, HS⟩
  iapply (phase2 A κ ι c _ _ 2 0 rfl (by decide) h7 h8 _ Q) $$ [H HS]
  · isplitr; · iexact HE
    isplitl [H]; · iexact H
    iexact HS
  iintro ⟨H, HS⟩
  iapply (phase2 A κ ι c _ _ 3 1 rfl (by decide) h9 h10 _ Q) $$ [H HS]
  · isplitr; · iexact HE
    isplitl [H]; · iexact H
    iexact HS
  iintro ⟨H, HS⟩
  iapply (phase2 A κ ι c _ _ 4 2 rfl (by decide) h11 h12 _ Q) $$ [H HS]
  · isplitr; · iexact HE
    isplitl [H]; · iexact H
    iexact HS
  iintro ⟨H, HS⟩
  iapply (phase3 A κ ι c _ 5 3 rfl (by decide) h13 _ Q) $$ [H]
  · isplitr; · iexact HE
    iexact H
  iintro ⟨H, Hc1, #H7⟩
  iapply (phase3 A κ ι c _ 6 4 rfl (by decide) h14 _ Q) $$ [H]
  · isplitr; · iexact HE
    iexact H
  iintro ⟨H, Hc0, #H8⟩
  iapply Hk
  isplitl [H]; · iexact H
  isplitl [HS]; · iexact HS
  isplitl [Hc1]; · iexact Hc1
  isplitl [Hc0]; · iexact Hc0
  isplitr; · iexact H7
  iexact H8

set_option maxHeartbeats 1600000 in
/-- The all-gather runs. -/
theorem ag_ring (c : Dev nD) (k : Code F) (Q : PUnit → sProp 𝕄) :
    iprop(env A κ ι ∗ hello (nx c) ∗ (Release.released ES (c, 7) 1 ∗ Release.released ES (c, 8) 1) ∗ AG A c 0 5 5)
      ⊢ iprop((AG A c 7 10 10 -∗ run c k Q) -∗ run c (agRing c k) Q) := by
  obtain ⟨h3, h4, h5, h6, h7, h8, h9, h10, h11, h12, h13, h14⟩ := devs_ag c
  unfold agRing
  iintro ⟨#HE, #HH, #H78, H⟩ Hk
  iapply (agphase1 A κ ι c _ _ 0 (by decide) h3 h4 _ Q) $$ [H]
  · isplitr; · iexact HE
    isplitr; · iexact HH
    isplitr; · iexact H78
    iexact H
  iintro H
  iapply (agphase1 A κ ι c _ _ 1 (by decide) h5 h6 _ Q) $$ [H]
  · isplitr; · iexact HE
    isplitr; · iexact HH
    isplitr; · iexact H78
    iexact H
  iintro H
  iapply (agphase2 A κ ι c _ _ 2 0 rfl (by decide) h7 h8 _ Q) $$ [H]
  · isplitr; · iexact HE
    isplitr; · iexact H78
    iexact H
  iintro H
  iapply (agphase2 A κ ι c _ _ 3 1 rfl (by decide) h9 h10 _ Q) $$ [H]
  · isplitr; · iexact HE
    isplitr; · iexact H78
    iexact H
  iintro H
  iapply (agphase2 A κ ι c _ _ 4 2 rfl (by decide) h11 h12 _ Q) $$ [H]
  · isplitr; · iexact HE
    isplitr; · iexact H78
    iexact H
  iintro H
  iapply (agphase3 A κ ι c _ 5 3 rfl (by decide) h13 _ Q) $$ [H]
  · isplitr; · iexact HE
    iexact H
  iintro H
  iapply (agphase3 A κ ι c _ 6 4 rfl (by decide) h14 _ Q) $$ [H]
  · isplitr; · iexact HE
    iexact H
  iintro H
  iapply Hk; iexact H

/-- What the all-gather brings along besides. -/
def agRest (c : Dev nD) : sProp 𝕄 :=
  iprop(bigSep (Finset.Ico 0 7) (agIn (F := F) c) ∗ two (fun p => at' (agSC c p)) 0 ∗ two (fun p => at' (agVC c p)) 0)

/-- Between the two: the chunk whose sum is finished is the first to be passed on. -/
theorem RS_AG (c : Dev nD) : iprop(RS A c 7 5 5 ∗ agRest c) ⊢ iprop(AG A c 0 5 5 ∗ two (fun p => at' (rsSC c p)) 7 ∗ two (fun p => at' (rsVC c p)) 7) := by
  have e : P A 7 c = Fn A (bk c (0 + 7)) := by unfold Fn; rw [Nat.zero_add, show pv (bk c 7) = c from pv_nx c]
  unfold RS AG agRest
  rw [Finset.range_one, bigSep_singleton, Nat.zero_add, e, Nat.zero_add]
  iintro ⟨⟨HC, Hc, -, -, HS, HV⟩, Hin, HaS, HaV⟩
  isplitr [HS HV]
  · isplitl [HC]; · iexact HC
    isplitl [Hc]; · iexact Hc
    isplitl [Hin]; · iexact Hin
    isplitl [HaS]; · iexact HaS
    iexact HaV
  isplitl [HS]; · iexact HS
  iexact HV

/-- The ring runs. -/
theorem ring (c : Dev nD) (k : Code F) (Q : PUnit → sProp 𝕄) :
    iprop(env A κ ι ∗ hello (nx c) ∗ RS A c 0 0 0 ∗ CS c 0 ∗ agRest c)
      ⊢ iprop(((AG A c 7 10 10 ∗ CS c 5 ∗ comAny c 1 ∗ comAny c 0 ∗ two (fun p => at' (rsSC c p)) 7 ∗ two (fun p => at' (rsVC c p)) 7) -∗ run c k Q)
        -∗ run c (rsRing c (agRing c k)) Q) := by
  iintro ⟨#HE, #HH, H, HS, Hin⟩ Hk
  iapply (rs_ring A κ ι c (agRing c k) Q) $$ [H HS]
  · isplitr; · iexact HE
    isplitr; · iexact HH
    isplitl [H]; · iexact H
    iexact HS
  iintro ⟨H, HS, Hc1, Hc0, #H7, #H8⟩
  ihave H' := (RS_AG A c) $$ [H Hin]
  · isplitl [H]; · iexact H
    iexact Hin
  icases H' with ⟨H, HrS, HrV⟩
  iapply (ag_ring A κ ι c k Q) $$ [H]
  · isplitr; · iexact HE
    isplitr; · iexact HH
    isplitr
    · isplitr; · iexact H7
      iexact H8
    iexact H
  iintro H
  iapply Hk
  isplitl [H]; · iexact H
  isplitl [HS]; · iexact HS
  isplitl [Hc1]; · iexact Hc1
  isplitl [Hc0]; · iexact Hc0
  isplitl [HrS]; · iexact HrS
  iexact HrV

end Cert.KernelIdeal.Talk

end
-- ==== Proof.Body.lean ====
/- The kernel body on one device: from the three fetched blocks and the resources the launch deals out, through the product and
   the ring, to the result's block, with every semaphore of the kernel back at zero. -/
module

public import proofs.«01_k».proof.Proof.Phases
public import Idealize.ShloMosaic.Lib.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (A : Dev nD → Vec F S8x256x1024 .bf16) (κ : GSem nD τ sig → ℕ) (ι : Key → ℕ)

/-! ## Loads and stores of held blocks -/

/-- A load through a rectangle of a held block. -/
theorem load_owns (c : Dev nD) {s : Shape} {e : EltTy} (a : Memref sig .tc .vmem s e) (r : Rect s) (hl) (X : s.Idx → Elt F e)
    (k : (r.shape.Idx → Elt F e) → Code F) (Q : PUnit → sProp 𝕄) :
    owns (c : Thread nD τ) a fullShare X
      ⊢ iprop((owns (c : Thread nD τ) a fullShare X -∗ run c (k fun i => X (r.emb i)) Q) -∗ run c (Prog.op (.load a r.toLoadRect hl) k) Q) := by
  unfold owns run
  iintro ⟨%f, %hf, H⟩ Hk
  subst hf
  iapply (wp_load_rect 𝒱₀ (c : Thread nD τ) none Set.univ (m := a) (r := r) (S := a.view.set) (f := f) (View.set_slice_subset _ _)) $$ [H]
  · iexact H
  iintro H
  iapply Hk
  iexists f
  isplitr; · ipureintro; rfl
  iexact H

/-- A rectangle that starts at zero and is as large as its shape keeps every index. -/
theorem emb_full {s : Shape} (o : Fin s.rank → ℕ) (h : ∀ a, o a + s.size a ≤ s.size a) (i : s.Idx) :
    (Rect.unit (s := s) o s.size h).emb i = i := by
  funext a
  apply Fin.ext
  show o a + 1 * (i a).val = (i a).val
  have := h a
  omega

/-- A store over the whole of a held block. -/
theorem store_owns (c : Dev nD) {s : Shape} {e : EltTy} (a : Memref sig .tc .vmem s e) (o : Fin s.rank → ℕ) (h : ∀ a, o a + s.size a ≤ s.size a)
    (w : s.Idx → Elt F e) (hx hm) (X : s.Idx → Elt F e) (k : PUnit → Code F) (Q : PUnit → sProp 𝕄) :
    owns (c : Thread nD τ) a fullShare X
      ⊢ iprop((owns (c : Thread nD τ) a fullShare w -∗ run c (k ⟨⟩) Q)
        -∗ run c (Prog.op (.store a (Rect.unit (s := s) o s.size h) w Finset.univ hx hm) k) Q) := by
  unfold owns run
  iintro ⟨%f, %hf, H⟩ Hk
  iapply (wp_store 𝒱₀ (c : Thread nD τ) none Set.univ (m := a) (r := Rect.unit (s := s) o s.size h) (Mk := Finset.univ) (S := a.view.set) (f := f)
    ((View.setOn_subset_set _ _).trans (View.set_slice_subset _ _))) $$ [H]
  · iexact H
  iintro H
  iapply Hk
  iexists ((a.access (Rect.unit (s := s) o s.size h)).write (Elt F) f w Finset.univ)
  isplitr
  · ipureintro
    funext i
    have hi := congrFun (View.read_write_univ (Val := Elt F) (v := a.access (Rect.unit (s := s) o s.size h)) f w) i
    have e : (a.access (Rect.unit (s := s) o s.size h)).read (Elt F) ((a.access (Rect.unit (s := s) o s.size h)).write (Elt F) f w Finset.univ) i
        = a.view.read (Elt F) ((a.access (Rect.unit (s := s) o s.size h)).write (Elt F) f w Finset.univ) ((Rect.unit (s := s) o s.size h).emb i) := rfl
    rw [emb_full] at e
    exact e.symm.trans hi
  · iexact H

/-! ## The scratch buffers, whole and in parts -/

/-- The accumulator's buffer. -/
abbrev redL (c : Dev nD) : Loc nD τ sig := (c : Thread nD τ).loc cc0_scratch0
/-- The landing slots' buffer. -/
abbrev comL (c : Dev nD) : Loc nD τ sig := (c : Thread nD τ).loc cc0_scratch1

theorem owns_red (c : Dev nD) (X : Vec F S8x256x1024 .bf16) : (owns (c : Thread nD τ) redM fullShare X : sProp 𝕄) = (redL c ↦{fullShare} X) :=
  owns_whole (c : Thread nD τ) cc0_scratch0 fullShare X

/-- The chunks counted from device `c` to the left. -/
def rot (c : Dev nD) : Fin 8 ≃ Dev nD :=
  Equiv.ofBijective (fun k => bk c k.val) ⟨fun a b h => Fin.ext (bk_inj c a.isLt b.isLt h), fun j => by
    obtain ⟨k, hk, h⟩ := exists_bk c j; exact ⟨⟨k, hk⟩, h⟩⟩
theorem big_rot (c : Dev nD) (Φ : Dev nD → sProp 𝕄) : bigSep Finset.univ Φ = bigSep (Finset.range 8) (fun k => Φ (bk c k)) := by
  rw [← show (Finset.univ : Finset (Fin 8)).map Fin.valEmbedding = Finset.range 8 from by decide, bigSep_map]
  exact bigSep_univ_equiv (rot c) Φ

theorem pts_has (c j : Dev nD) (X : Vec F S8x256x1024 .bf16) : (redL c ↦[redS j]{fullShare} X : sProp 𝕄) ⊢ redHas c j (chunk X j) := by
  unfold redHas
  iintro H
  iexists X
  isplitr; · ipureintro; exact read_red X j
  iexact H
theorem has_pts (c j : Dev nD) (X : Vec F S8x256x1024 .bf16) : redHas c j (chunk X j) ⊢ (redL c ↦[redS j]{fullShare} X : sProp 𝕄) := by
  unfold redHas
  iintro ⟨%f, %hf, H⟩
  iapply (Entails.of_eq (pointsTo_congr (f := f) (g := X) (fun i hi => by
    obtain ⟨x, -, rfl⟩ := Finset.mem_map.mp hi
    exact congrFun (hf : chunk (F := F) f j = chunk X j) x)))
  iexact H

/-- The accumulator in its chunks. -/
theorem red_split (c : Dev nD) (X : Vec F S8x256x1024 .bf16) :
    (redL c ↦{fullShare} X : sProp 𝕄) ⊢ bigSep (Finset.range 8) (fun k => redHas c (bk c k) (chunk X (bk c k))) := by
  rw [← big_rot c (fun j => redHas c j (chunk X j)), Ring.pointsTo_blocks (ℓ := redL c) redS (fun j j' h => redU_disjoint h) redU_cover]
  exact bigSep_mono fun j _ => pts_has c j X
theorem red_join (c : Dev nD) (X : Vec F S8x256x1024 .bf16) :
    bigSep (Finset.range 8) (fun k => redHas c (bk c k) (chunk X (bk c k))) ⊢ (redL c ↦{fullShare} X : sProp 𝕄) := by
  rw [← big_rot c (fun j => redHas c j (chunk X j)), Ring.pointsTo_blocks (ℓ := redL c) redS (fun j j' h => redU_disjoint h) redU_cover]
  exact bigSep_mono fun j _ => has_pts c j X
/-- The finished chunks are the finished accumulator. -/
theorem red_done (c : Dev nD) :
    bigSep (Finset.range 8) (fun k => redHas c (bk c (k + 7)) (Fn A (bk c (k + 7)))) ⊢ (redL c ↦{fullShare} (whole A) : sProp 𝕄) := by
  have e : (fun k => redHas c (bk c (k + 7)) (Fn A (bk c (k + 7)))) = fun k => redHas c (bk (nx c) k) (chunk (whole A) (bk (nx c) k)) := by
    funext k; rw [chunk_whole, bk_bk, Nat.add_comm]
  rw [e, ← big_rot (nx c) (fun j => redHas c j (chunk (whole A) j)), big_rot c]
  exact red_join c _

theorem pts_com (c : Dev nD) (p : Fin 2) (f : Buf (Elt F) (comL c)) : (comL c ↦[comS p]{fullShare} f : sProp 𝕄) ⊢ comAny c p := by
  unfold comAny Release.slot
  iintro H; iexists f; iexact H
theorem com_split (c : Dev nD) (f : Buf (Elt F) (comL c)) : (comL c ↦{fullShare} f : sProp 𝕄) ⊢ iprop(comAny c 0 ∗ comAny c 1) := by
  rw [Ring.pointsTo_blocks (ℓ := comL c) comS (fun p p' h => comU_disjoint h) comU_cover]
  refine (bigSep_mono (Φ := fun p : Fin 2 => (comL c ↦[comS p]{fullShare} f : sProp 𝕄)) (Ψ := comAny (F := F) c) fun p _ => pts_com c p f).trans
    (Entails.of_eq (bigSep_fin_two (fun p : Fin 2 => comAny (F := F) c p)))
theorem com_join (c : Dev nD) (f₀ : Buf (Elt F) (comL c)) : iprop(comAny c 0 ∗ comAny c 1) ⊢ (iprop(∃ f, comL c ↦{fullShare} f) : sProp 𝕄) :=
  (Entails.of_eq (bigSep_fin_two (fun p : Fin 2 => comAny (F := F) c p)).symm).trans
    (Ring.pointsTo_blocks_join_exists (ℓ := comL c) (Val := Elt F) comS (fun p p' h => comU_disjoint h) comU_cover f₀)

/-! ## The product and the result -/

/-- What a device's accumulator holds after the product part, of the blocks it fetched. -/
def acc (x : Vec F S2048x512 .bf16) (μ : Vec F S2048x4 .bf16) (w : Vec F S4x512x1024 .bf16) : Vec F S8x256x1024 .bf16 :=
  let xs : Vec F S2048x512 .bf16 := fun i => x ((Rect.unit (s := S2048x512) ![0, 0] S2048x512.size inb_S2048x512_S2048x512_0_0).emb i)
  k0_pay4
    (k0_pay2 xs (fun i => μ ((Rect.unit (s := S2048x4) ![0, 0] S2048x1.size inb_S2048x4_S2048x1_0_0).emb i))
      (fun i => w ((Rect.unit (s := S4x512x1024) ![0, 0, 0] S1x512x1024.size inb_S4x512x1024_S1x512x1024_0_0_0).emb i)))
    (k0_pay3 xs)
    (fun i => μ ((Rect.unit (s := S2048x4) ![0, 1] S2048x1.size inb_S2048x4_S2048x1_0_1).emb i))
    (fun i => w ((Rect.unit (s := S4x512x1024) ![1, 0, 0] S1x512x1024.size inb_S4x512x1024_S1x512x1024_1_0_0).emb i))
    xs (fun i => μ ((Rect.unit (s := S2048x4) ![0, 2] S2048x1.size inb_S2048x4_S2048x1_0_2).emb i))
    (fun i => w ((Rect.unit (s := S4x512x1024) ![2, 0, 0] S1x512x1024.size inb_S4x512x1024_S1x512x1024_2_0_0).emb i))
    xs (fun i => μ ((Rect.unit (s := S2048x4) ![0, 3] S2048x1.size inb_S2048x4_S2048x1_0_3).emb i))
    (fun i => w ((Rect.unit (s := S4x512x1024) ![3, 0, 0] S1x512x1024.size inb_S4x512x1024_S1x512x1024_3_0_0).emb i))

set_option maxHeartbeats 1600000 in
theorem mul_step (c : Dev nD) (a0 : Memref sig .tc .vmem S2048x512 .bf16) (a1 : Memref sig .tc .vmem S2048x4 .bf16)
    (a2 : Memref sig .tc .vmem S4x512x1024 .bf16) (x : Vec F S2048x512 .bf16) (μ : Vec F S2048x4 .bf16) (w : Vec F S4x512x1024 .bf16)
    (X : Vec F S8x256x1024 .bf16) (k : Code F) (Q : PUnit → sProp 𝕄) :
    iprop(owns (c : Thread nD τ) a0 fullShare x ∗ owns (c : Thread nD τ) a1 fullShare μ ∗ owns (c : Thread nD τ) a2 fullShare w
        ∗ owns (c : Thread nD τ) redM fullShare X)
      ⊢ iprop(((owns (c : Thread nD τ) a0 fullShare x ∗ owns (c : Thread nD τ) a1 fullShare μ ∗ owns (c : Thread nD τ) a2 fullShare w
          ∗ owns (c : Thread nD τ) redM fullShare (acc x μ w)) -∗ run c k Q) -∗ run c (mulProg a0 a1 a2 k) Q) := by
  unfold mulProg acc
  iintro ⟨H0, H1, H2, HR⟩ Hk
  iapply (load_owns c a0) $$ H0; iintro H0
  iapply (load_owns c a1) $$ H1; iintro H1
  iapply (load_owns c a2) $$ H2; iintro H2
  iapply (load_owns c a0) $$ H0; iintro H0
  iapply (load_owns c a1) $$ H1; iintro H1
  iapply (load_owns c a2) $$ H2; iintro H2
  iapply (load_owns c a0) $$ H0; iintro H0
  iapply (load_owns c a1) $$ H1; iintro H1
  iapply (load_owns c a2) $$ H2; iintro H2
  iapply (load_owns c a0) $$ H0; iintro H0
  iapply (load_owns c a1) $$ H1; iintro H1
  iapply (load_owns c a2) $$ H2; iintro H2
  iapply (load_owns c redM) $$ HR; iintro HR
  iapply (store_owns c redM) $$ HR; iintro HR
  iapply Hk
  isplitl [H0]; · iexact H0
  isplitl [H1]; · iexact H1
  isplitl [H2]; · iexact H2
  iexact HR

/-- What the result's block holds, of the finished accumulator. -/
def outOf (X : Vec F S8x256x1024 .bf16) : Vec F S2048x1024 .f32 :=
  k0_pay1 fun i => X ((Rect.unit (s := S8x256x1024) ![0, 0, 0] S8x256x1024.size inb_S8x256x1024_S8x256x1024_0_0_0).emb i)

theorem out_step (c : Dev nD) (a3 : Memref sig .tc .vmem S2048x1024 .f32) (X : Vec F S8x256x1024 .bf16) (y : Vec F S2048x1024 .f32)
    (Q : PUnit → sProp 𝕄) :
    iprop(owns (c : Thread nD τ) redM fullShare X ∗ owns (c : Thread nD τ) a3 fullShare y)
      ⊢ iprop(((owns (c : Thread nD τ) redM fullShare X ∗ owns (c : Thread nD τ) a3 fullShare (outOf X)) -∗ iprop(|={Set.univ}=> Q ⟨⟩))
        -∗ run c (outProg a3) Q) := by
  unfold outProg outOf
  iintro ⟨HR, H3⟩ Hk
  iapply (load_owns c redM) $$ HR; iintro HR
  iapply (load_owns c a3) $$ H3; iintro H3
  iapply (store_owns c a3) $$ H3; iintro H3
  unfold run
  rw [wp_ret]
  iapply Hk
  isplitl [HR]; · iexact HR
  iexact H3

/-! ## The whole body -/

/-- What the launch deals device `c`, at the region's entry. -/
def Start (c : Dev nD) : sProp 𝕄 :=
  iprop(atPos ER (barC c) 0 ∅ 0 ∗ cred (tallyAt (barC c) 0 2)
    ∗ dutyTok ER (barC (pv c)) 0 0 ∗ dutyTok ER (barC (nx c)) 0 1 ∗ reached ER (barC (pv c)) 0 ∗ reached ER (barC (nx c)) 0
    ∗ at' (creC c) 0 ∗ bigSep (Finset.Ico 0 10) (fun σ => cred (tallyAt (creC c) (stepOf σ) 1))
    ∗ bigSep (Finset.Ico 0 10) (fun σ => dutyTok ER (creC (pv c)) 0 σ)
    ∗ bigSep (Finset.Ico 0 7) (rsIn (F := F) c) ∗ two (fun p => at' (rsSC c p)) 0 ∗ two (fun p => at' (rsVC c p)) 0
    ∗ agRest c ∗ Release.readerAt ES (c, 0) 0 ∗ Release.readerAt ES (c, 1) 0)

/-- The landing slots given away: the left neighbour may write them. -/
theorem com_give (c : Dev nD) (p : Fin 2) :
    iprop(env A κ ι ∗ comAny c p ∗ Release.readerAt ES (c, p.val) 0)
      ⊢ (iprop(|={Set.univ}=> (Release.readerAt ES (c, p.val) 1 ∗ Release.released ES (c, p.val) 1)) : sProp 𝕄) := by
  have e : Sl (F := F) (c, p.val) = comAny c p := by
    have h := Sl_com (F := F) c p.val
    rw [Nat.mod_eq_of_lt p.isLt] at h
    exact h.trans (congrArg (comAny c) (Fin.ext (Nat.mod_eq_of_lt p.isLt)))
  rw [← e]
  iintro ⟨#HE, Hc, Ha⟩
  iapply (Release.slot_release ES (S := Sl (c, p.val)) (Es := Set.univ) (ι := ι (c, p.val)) (Set.mem_univ _) (Sl_excl _) 0)
  isplitr; · iapply (env_slot A κ ι (key_mem c _ (by have := p.isLt; omega))); iexact HE
  isplitl [Ha]; · iexact Ha
  iexact Hc

/-- What device `c` can say at the barrier. -/
theorem hello_intro (c : Dev nD) :
    iprop(Release.released ES (c, 0) 1 ∗ Release.released ES (c, 1) 1 ∗ two (fun p => at' (rsVC c p)) 0 ∗ two (fun p => at' (agVC c p)) 0)
      ⊢ (iprop(hello c ∗ two (fun p => at' (rsVC c p)) 0 ∗ two (fun p => at' (agVC c p)) 0) : sProp 𝕄) := by
  unfold two at' hello
  iintro ⟨#H0, #H1, ⟨⟨Ha, #Hb⟩, ⟨Hc, #Hd⟩⟩, ⟨⟨He, #Hf⟩, ⟨Hg, #Hh⟩⟩⟩
  isplitr
  · isplitr; · iexact H0
    isplitr; · iexact H1
    isplitr; · iexact Hb
    isplitr; · iexact Hd
    isplitr; · iexact Hf
    iexact Hh
  isplitl [Ha Hc]
  · isplitl [Ha]
    · isplitl [Ha]; · iexact Ha
      iexact Hb
    · isplitl [Hc]; · iexact Hc
      iexact Hd
  · isplitl [He]
    · isplitl [He]; · iexact He
      iexact Hf
    · isplitl [Hg]; · iexact Hg
      iexact Hh

theorem close_one (g : GSem nD τ sig) (hg : g ∈ cells) (R : ℕ) (hR : ∀ r, R ≤ r → (rd A).duties g r = ∅) :
    iprop(env A κ ι ∗ atPos ER g R ∅ 0) ⊢ (iprop(|={Set.univ}=> semVal g 0) : sProp 𝕄) := by
  iintro ⟨#HE, H⟩
  iapply (Rounds.cell_close ER (rd A) (κ := κ g) (Set.mem_univ _) id hR)
  isplitr; · iapply (env_cell A κ ι hg); iexact HE
  iexact H

/-- Both parities of a semaphore come back to zero. -/
theorem close_two (G : Fin 2 → GSem nD τ sig) (hG : ∀ p, G p ∈ cells)
    (h1 : role (G 1).2 = .rsS 1 ∨ role (G 1).2 = .rsV 1 ∨ role (G 1).2 = .agS 1 ∨ role (G 1).2 = .agV 1) :
    iprop(env A κ ι ∗ two (fun p => at' (F := F) (G p)) 7) ⊢ (iprop(|={Set.univ}=> (semVal (G 0) 0 ∗ semVal (G 1) 0)) : sProp 𝕄) := by
  unfold two at'
  iintro ⟨#HE, ⟨H0, -⟩, ⟨H1, -⟩⟩
  imod (close_one A κ ι (G 0) (hG 0) ((7 + 1) / 2) (fun r h => duties_late A _ r h)) $$ [H0] with H0
  · isplitr; · iexact HE
    iexact H0
  imod (close_one A κ ι (G 1) (hG 1) (7 / 2) (fun r h => duties_odd A _ h1 r h)) $$ [H1] with H1
  · isplitr; · iexact HE
    iexact H1
  imodintro
  isplitl [H0]; · iexact H0
  iexact H1

theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]
  rfl
theorem own_eq (c : Dev nD) : (Pipeline.ownSems0 scL c : sProp 𝕄) = iprop(semVal (creC c) 0 ∗ semVal (rsSC c 0) 0 ∗ semVal (rsSC c 1) 0
    ∗ semVal (rsVC c 0) 0 ∗ semVal (rsVC c 1) 0 ∗ semVal (agSC c 0) 0 ∗ semVal (agSC c 1) 0 ∗ semVal (agVC c 0) 0 ∗ semVal (agVC c 1) 0) :=
  nine _
/-- Every semaphore back at zero. -/
theorem close_all (c : Dev nD) :
    iprop(env A κ ι ∗ atPos ER (barC c) 1 ∅ 0 ∗ crePos c 10 ∗ two (fun p => at' (rsSC c p)) 7 ∗ two (fun p => at' (rsVC c p)) 7
        ∗ two (fun p => at' (agSC c p)) 7 ∗ two (fun p => at' (agVC c p)) 7)
      ⊢ (iprop(|={Set.univ}=> (semVal (barC c) 0 ∗ Pipeline.ownSems0 scL c)) : sProp 𝕄) := by
  rw [crePos_ten]
  iintro ⟨#HE, Hb, Hc, H1, H2, H3, H4⟩
  imod (close_one A κ ι (barC c) (bar_mem c) 1 (fun r h => duties_bar_late A c r h)) $$ [Hb] with Hb
  · isplitr; · iexact HE
    iexact Hb
  imod (close_one A κ ι (creC c) (cre_mem c) 1 (fun r h => duties_cre_late A c r h)) $$ [Hc] with Hc
  · isplitr; · iexact HE
    iexact Hc
  imod (close_two A κ ι (rsSC c) (rsS_mem c) (.inl (role_rsS 1))) $$ [H1] with ⟨H10, H11⟩
  · isplitr; · iexact HE
    iexact H1
  imod (close_two A κ ι (rsVC c) (rsV_mem c) (.inr (.inl (role_rsV 1)))) $$ [H2] with ⟨H20, H21⟩
  · isplitr; · iexact HE
    iexact H2
  imod (close_two A κ ι (agSC c) (agS_mem c) (.inr (.inr (.inl (role_agS 1))))) $$ [H3] with ⟨H30, H31⟩
  · isplitr; · iexact HE
    iexact H3
  imod (close_two A κ ι (agVC c) (agV_mem c) (.inr (.inr (.inr (role_agV 1))))) $$ [H4] with ⟨H40, H41⟩
  · isplitr; · iexact HE
    iexact H4
  imodintro
  isplitl [Hb]; · iexact Hb
  rw [own_eq]
  isplitl [Hc]; · iexact Hc
  isplitl [H10]; · iexact H10
  isplitl [H11]; · iexact H11
  isplitl [H20]; · iexact H20
  isplitl [H21]; · iexact H21
  isplitl [H30]; · iexact H30
  isplitl [H31]; · iexact H31
  isplitl [H40]; · iexact H40
  iexact H41

/-- From the barrier on: the chunks of the product and what the launch dealt out start the reduce-scatter. -/
theorem RS_start (c : Dev nD) :
    iprop(ow c (due c 0 0) ∗ reached ER (creC (pv c)) 0 ∗ at' (creC c) 0 ∗ bigSep (Finset.Ico 0 10) (fun σ => cred (tallyAt (creC c) (stepOf σ) 1))
        ∗ bigSep (Finset.Ico 0 10) (fun σ => dutyTok ER (creC (pv c)) 0 σ)
        ∗ bigSep (Finset.range 8) (fun k => redHas c (bk c k) (chunk (A c) (bk c k)))
        ∗ bigSep (Finset.Ico 0 7) (rsIn (F := F) c) ∗ two (fun p => at' (rsSC c p)) 0 ∗ two (fun p => at' (rsVC c p)) 0)
      ⊢ RS A c 0 0 0 := by
  unfold RS Cm
  rw [crePos_lt c (show 0 < 10 by decide), Finset.range_eq_Ico]
  unfold at'
  iintro ⟨HO, #Hr, ⟨Hat, -⟩, Hcr, Htk, Hred, Hin, HS, HV⟩
  ihave Hred' := (pop (show 0 < 8 by decide) _) $$ Hred
  icases Hred' with ⟨H0, Hred⟩
  isplitr [H0 Hred Hin HS HV]
  · isplitl [HO]; · iexact HO
    isplitl [Hat]
    · iexists ∅
      isplitl [Hat]; · iexact Hat
      rw [bigSep_empty]; iempintro
    isplitl [Hcr]; · iexact Hcr
    isplitl [Htk]; · iexact Htk
    isplitr; · rw [Finset.range_zero, bigSep_empty]; iempintro
    isplitr; · rw [Finset.range_zero, bigSep_empty]; iempintro
    iexact Hr
  isplitl [H0]
  · rw [show P A 0 c = chunk (A c) (bk c 0) from by rw [bk_zero]; rfl]; iexact H0
  isplitl [Hred]; · iexact Hred
  isplitl [Hin]; · iexact Hin
  isplitl [HS]; · iexact HS
  iexact HV

/-- After the last step: nothing owed, the accumulator finished, the semaphores' positions at their ends. -/
theorem AG_stop (c : Dev nD) :
    AG A c 7 10 10 ⊢ iprop(ow c 0 ∗ crePos c 10 ∗ (redL c ↦{fullShare} (whole A)) ∗ two (fun p => at' (agSC c p)) 7 ∗ two (fun p => at' (agVC c p)) 7) := by
  unfold AG Cm
  rw [show due c (7 + 7) 10 = 0 from due_end c]
  iintro ⟨⟨HO, Hcre, -, -, -, -, -⟩, Hred, -, HS, HV⟩
  isplitl [HO]; · iexact HO
  isplitl [Hcre]; · iexact Hcre
  isplitl [Hred]; · iapply (red_done A c); iexact Hred
  isplitl [HS]; · iexact HS
  iexact HV

set_option maxRecDepth 65536 in
theorem chain_ring (c : Dev nD) (a0 : Memref sig .tc .vmem S2048x512 .bf16) (a1 : Memref sig .tc .vmem S2048x4 .bf16)
    (a2 : Memref sig .tc .vmem S4x512x1024 .bf16) (a3 : Memref sig .tc .vmem S2048x1024 .f32) :
    chain (F := F) c a0 a1 a2 a3 = barProg (dv (k0_dev1 c) (k0_dev1_lt c)) (dv (k0_dev2 c) (k0_dev2_lt c))
      (mulProg a0 a1 a2 (rsRing c (agRing c (outProg a3)))) := rfl

/-- The body of device `c`, from the barrier to the store of the result. -/
theorem body_run (c : Dev nD) (a0 : Memref sig .tc .vmem S2048x512 .bf16) (a1 : Memref sig .tc .vmem S2048x4 .bf16)
    (a2 : Memref sig .tc .vmem S4x512x1024 .bf16) (a3 : Memref sig .tc .vmem S2048x1024 .f32)
    (x : Vec F S2048x512 .bf16) (μ : Vec F S2048x4 .bf16) (w : Vec F S4x512x1024 .bf16) (hA : acc x μ w = A c) (Q : PUnit → sProp 𝕄) :
    iprop(env A κ ι ∗ ow c (O₀ c) ∗ Start c ∗ (∃ f, redL c ↦{fullShare} f) ∗ (∃ f, comL c ↦{fullShare} f)
        ∗ owns (c : Thread nD τ) a0 fullShare x ∗ owns (c : Thread nD τ) a1 fullShare μ ∗ owns (c : Thread nD τ) a2 fullShare w
        ∗ (∃ y, owns (c : Thread nD τ) a3 fullShare y))
      ⊢ iprop(((ow c 0 ∗ (semVal (barC c) 0 ∗ Pipeline.ownSems0 scL c) ∗ (∃ f, redL c ↦{fullShare} f) ∗ (∃ f, comL c ↦{fullShare} f)
          ∗ owns (c : Thread nD τ) a0 fullShare x ∗ owns (c : Thread nD τ) a1 fullShare μ ∗ owns (c : Thread nD τ) a2 fullShare w
          ∗ owns (c : Thread nD τ) a3 fullShare (outOf (whole A))) -∗ Q ⟨⟩) -∗ run c (chain c a0 a1 a2 a3) Q) := by
  rw [chain_ring]
  unfold Start agRest
  iintro ⟨#HE, HO, ⟨Hbar, Hcb, Ht0, Ht1, #Hr0, #Hr1, Hcre, Hcr, Htk, Hin, HrS, HrV, ⟨HaIn, HaS, HaV⟩, Hra0, Hra1⟩, ⟨%f, Hf⟩, ⟨%g, Hg⟩, Ha0, Ha1, Ha2, ⟨%y, Ha3⟩⟩ Hk
  ihave Hg' := (com_split c g) $$ Hg
  icases Hg' with ⟨Hg0, Hg1⟩
  imod (com_give A κ ι c 0) $$ [Hg0 Hra0] with ⟨Hra0, #Hrel0⟩
  · isplitr; · iexact HE
    isplitl [Hg0]; · iexact Hg0
    iexact Hra0
  imod (com_give A κ ι c 1) $$ [Hg1 Hra1] with ⟨Hra1, #Hrel1⟩
  · isplitr; · iexact HE
    isplitl [Hg1]; · iexact Hg1
    iexact Hra1
  ihave Hh := (hello_intro c) $$ [HrV HaV]
  · isplitr; · iexact Hrel0
    isplitr; · iexact Hrel1
    isplitl [HrV]; · iexact HrV
    iexact HaV
  icases Hh with ⟨#Hh, HrV, HaV⟩
  unfold at'
  icases Hcre with ⟨Hcre, #Hcr0⟩
  iapply (bar_step A κ ι c _ _ (devs_bar c).1 (devs_bar c).2) $$ [HO Hbar Hcb Ht0 Ht1]
  · isplitr; · iexact HE
    isplitl [HO]; · iexact HO
    isplitl [Hbar]; · iexact Hbar
    isplitl [Hcb]; · iexact Hcb
    isplitl [Ht0]; · iexact Ht0
    isplitl [Ht1]; · iexact Ht1
    isplitr; · iexact Hr0
    isplitr; · iexact Hr1
    isplitr; · iexact Hh
    iexact Hcr0
  iintro ⟨HO, Hbar, #Hhn, #Hrp⟩
  ihave Hred := (Entails.of_eq (owns_red c f).symm) $$ Hf
  iapply (mul_step c a0 a1 a2 x μ w f) $$ [Ha0 Ha1 Ha2 Hred]
  · isplitl [Ha0]; · iexact Ha0
    isplitl [Ha1]; · iexact Ha1
    isplitl [Ha2]; · iexact Ha2
    iexact Hred
  iintro ⟨Ha0, Ha1, Ha2, Hred⟩
  ihave Hred' := ((Entails.of_eq ((congrArg _ hA).trans (owns_red c (A c)))).trans (red_split c (A c))) $$ Hred
  iapply (ring A κ ι c (outProg a3) Q) $$ [HO Hcre Hcr Htk Hred' Hin HrS HrV HaIn HaS HaV Hra0 Hra1]
  · isplitr; · iexact HE
    isplitr; · iexact Hhn
    isplitr [HaIn HaS HaV Hra0 Hra1]
    · iapply (RS_start A c)
      isplitl [HO]; · iexact HO
      isplitr; · iexact Hrp
      isplitl [Hcre]
      · unfold at'; isplitl [Hcre]; · iexact Hcre
        iexact Hcr0
      isplitl [Hcr]; · iexact Hcr
      isplitl [Htk]; · iexact Htk
      isplitl [Hred']; · iexact Hred'
      isplitl [Hin]; · iexact Hin
      isplitl [HrS]; · iexact HrS
      iexact HrV
    isplitl [Hra0 Hra1]
    · unfold CS two
      isplitl [Hra0]; · iexact Hra0
      iexact Hra1
    unfold agRest
    isplitl [HaIn]; · iexact HaIn
    isplitl [HaS]; · iexact HaS
    iexact HaV
  iintro ⟨HAG, -, Hc1, Hc0, HrS, HrV⟩
  ihave HAG' := (AG_stop A c) $$ HAG
  icases HAG' with ⟨HO, Hcre, Hred, HaS, HaV⟩
  ihave Hred' := (Entails.of_eq (owns_red c (whole A)).symm) $$ Hred
  iapply (out_step c a3 (whole A) y Q) $$ [Hred' Ha3]
  · isplitl [Hred']; · iexact Hred'
    iexact Ha3
  iintro ⟨Hred, Ha3⟩
  imod (close_all A κ ι c) $$ [Hbar Hcre HrS HrV HaS HaV] with Hsem
  · isplitr; · iexact HE
    isplitl [Hbar]; · iexact Hbar
    isplitl [Hcre]; · iexact Hcre
    isplitl [HrS]; · iexact HrS
    isplitl [HrV]; · iexact HrV
    isplitl [HaS]; · iexact HaS
    iexact HaV
  imodintro
  iapply Hk
  isplitl [HO]; · iexact HO
  isplitl [Hsem]; · iexact Hsem
  isplitl [Hred]
  · iexists (whole A); iapply (Entails.of_eq (owns_red c (whole A))); iexact Hred
  isplitl [Hc0 Hc1]
  · iapply (com_join c g)
    isplitl [Hc0]; · iexact Hc0
    iexact Hc1
  isplitl [Ha0]; · iexact Ha0
  isplitl [Ha1]; · iexact Ha1
  isplitl [Ha2]; · iexact Ha2
  iexact Ha3

end Cert.KernelIdeal.Talk

end
-- ==== Proof.Region.lean ====
/- The kernel's region on one device: the arrays' blocks fetched, the body, the result written back. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The blocks and the result -/

/-- The tokens' block, the mask's and the experts', as the region's copies bring them in. -/
def inX (c : Dev nD) : Vec F S2048x512 .bf16 := ((cfg0.win 0).blk t0_0).view.read (Elt F) (V3 m c main_arg0)
def inM (c : Dev nD) : Vec F S2048x4 .bf16 := ((cfg0.win 1).blk t0_0).view.read (Elt F) (V3 m c main_v22)
def inW (c : Dev nD) : Vec F S4x512x1024 .bf16 := ((cfg0.win 2).blk t0_0).view.read (Elt F) (V3 m c main_arg3)

/-- What each device multiplies before the ring, and what every device holds after it. -/
def Am (c : Dev nD) : Vec F S8x256x1024 .bf16 := acc (inX m c) (inM m c) (inW m c)
def res : Vec F S2048x1024 .f32 := outOf (whole (Am m))

/-- The windows' blocks are the arrays. -/
theorem inX_eq (c : Dev nD) : inX m c = V3 m c main_arg0 :=
  funext fun i => congrArg (V3 m c main_arg0) (funext fun a => Fin.ext (by
    show 0 * _ + 1 * (i a).val = (i a).val
    omega))
theorem inM_eq (c : Dev nD) : inM m c = V3 m c main_v22 :=
  funext fun i => congrArg (V3 m c main_v22) (funext fun a => Fin.ext (by
    show 0 * _ + 1 * (i a).val = (i a).val
    omega))
theorem inW_eq (c : Dev nD) : inW m c = V3 m c main_arg3 :=
  funext fun i => congrArg (V3 m c main_arg3) (funext fun a => Fin.ext (by
    show 0 * _ + 1 * (i a).val = (i a).val
    omega))

/-! ## The pipeline's data -/

/-- What the launch leaves with device `c`: as at the start, the cells taken over at the region's entry still to be opened. -/
def Kept (c : Dev nD) : sProp 𝕄 :=
  iprop(atPos ER (barC c) 0 ∅ 0 ∗ cred (tallyAt (barC c) 0 2) ∗ dutyTok ER (barC (pv c)) 0 0 ∗ dutyTok ER (barC (nx c)) 0 1
    ∗ reached ER (barC (pv c)) 0 ∗ reached ER (barC (nx c)) 0
    ∗ (bigSep (Finset.Ico 0 10) fun σ => cred (tallyAt (creC c) (stepOf σ) 1))
    ∗ (bigSep (Finset.Ico 0 10) fun σ => dutyTok ER (creC (pv c)) 0 σ)
    ∗ bigSep (Finset.Ico 0 7) (rsIn c) ∗ bigSep (Finset.Ico 0 7) (agIn c)
    ∗ Release.readerAt ES (c, 0) 0 ∗ Release.readerAt ES (c, 1) 0
    ∗ bigSep Finset.univ fun k : Fin 9 => openTok ER ((c : Thread nD τ), scL k))

def Tk (c : Dev nD) : sProp 𝕄 := iprop(∃ κ ι, env (Am m) κ ι ∗ Kept c)
def Xk (c : Dev nD) : sProp 𝕄 := iprop(∃ κ ι, env (Am m) κ ι ∗ Start c)
def Yk (c : Dev nD) : sProp 𝕄 := semVal (barC c) 0

/-- The two scratch buffers at some contents. -/
def scratch (c : Dev nD) : sProp 𝕄 :=
  iprop((∃ f, redL c ↦{fullShare} f) ∗ (∃ f, comL c ↦{fullShare} f))

def dat0 (c : Dev nD) : Dat τ (Elt F) ℕ ℕ UU ℕ cfg0 c where
  A := fun w => V3 m c (Proc.devRef .tc (Pipeline.arrRef spec0 w))
  after := fun w _ => match w with
    | 0 => inX m c
    | 1 => inM m c
    | 2 => inW m c
    | 3 => res m
  Φ := fun t => if t.val = 0 then iprop(Xk m c ∗ scratch c ∗ ∃ r, prngReg c r)
    else iprop(Yk c ∗ Pipeline.ownSems0 scL c ∗ scratch c ∗ ∃ r, prngReg c r)
  q := fun _ => fullShare
  owed := fun t => if t.val = 0 then O₀ c else 0

def pdats : (p : Fin 1) → (c : Dev nD) → Dat τ (Elt F) ℕ ℕ UU ℕ (cfgs p) c
  | 0 => dat0 m

theorem Φ_first (c : Dev nD) : (dat0 m c).Φ t0_0.castSucc = iprop(Xk m c ∗ scratch c ∗ ∃ r, prngReg c r) := rfl
theorem Φ_next (c : Dev nD) : (dat0 m c).Φ t0_0.succ = iprop(Yk c ∗ Pipeline.ownSems0 scL c ∗ scratch c ∗ ∃ r, prngReg c r) := rfl

theorem owes_in (c : Dev nD) : (dat0 m c).owesAt 0 t0_0.castSucc ⊢ ow c (O₀ c) := by
  unfold Dat.owesAt Pipeline.owesWithin ow
  rw [show (dat0 m c).owed t0_0.castSucc = O₀ c from rfl]
  iintro ⟨%W, -, HO⟩; iexists W; iexact HO
theorem owes_out (c : Dev nD) : ow c 0 ⊢ (dat0 m c).owesAt 0 t0_0.succ := by
  unfold Dat.owesAt Pipeline.owesWithin ow Dat.bound
  rw [show (dat0 m c).owed t0_0.succ = 0 from rfl]
  iintro ⟨%W, HO⟩; iexists W
  isplitr
  · ipureintro; exact fun _ _ => Or.inl trivial
  iexact HO

/-- Before the body, an input's staging buffer holds its block. -/
theorem before_0 (c : Dev nD) (d) : (dat0 m c).before 0 t0_0 d = inX m c :=
  ((dat0 m c).before_fetched 0 t0_0 (fetch0_0 t0_0) d).trans rfl
theorem before_1 (c : Dev nD) (d) : (dat0 m c).before 1 t0_0 d = inM m c :=
  ((dat0 m c).before_fetched 1 t0_0 (fetch0_1 t0_0) d).trans rfl
theorem before_2 (c : Dev nD) (d) : (dat0 m c).before 2 t0_0 d = inW m c :=
  ((dat0 m c).before_fetched 2 t0_0 (fetch0_2 t0_0) d).trans rfl

/-! ## The body, as the pipeline runs it -/

/-- A staging buffer at some contents found before the body. -/
theorem found (c : Dev nD) {s : Shape} {e : EltTy} (a : Memref sig .tc .vmem s e) (X : s.Idx → Elt F e) (β : (s.Idx → Elt F e) → s.Idx → Elt F e)
    (h : ∀ d, β d = X) : iprop(∃ d, owns (c : Thread nD τ) a fullShare (β d)) ⊢ (owns (c : Thread nD τ) a fullShare X : sProp 𝕄) := by
  iintro ⟨%d, H⟩
  ihave H' := (Entails.of_eq (congrArg (fun Y => (owns (c : Thread nD τ) a fullShare Y : sProp 𝕄)) (h d))) $$ H
  iexact H'
theorem some_found (c : Dev nD) {s : Shape} {e : EltTy} (a : Memref sig .tc .vmem s e) (β : (s.Idx → Elt F e) → s.Idx → Elt F e) :
    iprop(∃ d, owns (c : Thread nD τ) a fullShare (β d)) ⊢ (iprop(∃ y, owns (c : Thread nD τ) a fullShare y) : sProp 𝕄) := by
  iintro ⟨%d, H⟩
  iexists (β d); iexact H

theorem body_at : bodyAt0 (F := F) t0_0 = Prog.op .deviceId fun c => chain c (st0_0 t0_0) (st0_1 t0_0) (st0_2 t0_0) (st0_3 t0_0) :=
  body_chain _ _ _ _ _ _ _ _

theorem body_pipe (c : Dev nD) :
    iprop((Xk m c ∗ scratch c ∗ ∃ r, prngReg c r) ∗ (dat0 m c).owesAt 0 t0_0.castSucc
        ∗ (∃ d, owns (c : Thread nD τ) (st0_0 t0_0) fullShare ((dat0 m c).before 0 t0_0 d))
        ∗ (∃ d, owns (c : Thread nD τ) (st0_1 t0_0) fullShare ((dat0 m c).before 1 t0_0 d))
        ∗ (∃ d, owns (c : Thread nD τ) (st0_2 t0_0) fullShare ((dat0 m c).before 2 t0_0 d))
        ∗ (∃ d, owns (c : Thread nD τ) (st0_3 t0_0) fullShare ((dat0 m c).before 3 t0_0 d)))
      ⊢ run c (bodyAt0 (F := F) t0_0) fun _ => iprop((Yk c ∗ Pipeline.ownSems0 scL c ∗ scratch c ∗ ∃ r, prngReg c r) ∗ (dat0 m c).owesAt 0 t0_0.succ
        ∗ owns (c : Thread nD τ) (st0_0 t0_0) fullShare (inX m c) ∗ owns (c : Thread nD τ) (st0_1 t0_0) fullShare (inM m c)
        ∗ owns (c : Thread nD τ) (st0_2 t0_0) fullShare (inW m c) ∗ owns (c : Thread nD τ) (st0_3 t0_0) fullShare (res m)) := by
  rw [body_at]
  unfold run
  rw [wp_deviceId]
  unfold Xk scratch
  iintro ⟨⟨⟨%κ, %ι, #HE, HS⟩, ⟨Hf, Hg⟩, Hp⟩, HO, H0, H1, H2, H3⟩
  ihave HO' := (owes_in m c) $$ HO
  ihave H0' := (found c _ (inX m c) _ (before_0 m c)) $$ H0
  ihave H1' := (found c _ (inM m c) _ (before_1 m c)) $$ H1
  ihave H2' := (found c _ (inW m c) _ (before_2 m c)) $$ H2
  ihave H3' := (some_found c _ _) $$ H3
  iapply (body_run (Am m) κ ι c (st0_0 t0_0) (st0_1 t0_0) (st0_2 t0_0) (st0_3 t0_0) (inX m c) (inM m c) (inW m c) rfl) $$ [HS Hf Hg HO' H0' H1' H2' H3']
  · isplitr; · iexact HE
    isplitl [HO']; · iexact HO'
    isplitl [HS]; · iexact HS
    isplitl [Hf]; · iexact Hf
    isplitl [Hg]; · iexact Hg
    isplitl [H0']; · iexact H0'
    isplitl [H1']; · iexact H1'
    isplitl [H2']; · iexact H2'
    iexact H3'
  iintro ⟨HO, ⟨Hb, Hs⟩, Hf, Hg, H0, H1, H2, H3⟩
  isplitl [Hb Hs Hf Hg Hp]
  · unfold Yk
    isplitl [Hb]; · iexact Hb
    isplitl [Hs]; · iexact Hs
    isplitl [Hf Hg]
    · isplitl [Hf]; · iexact Hf
      iexact Hg
    iexact Hp
  isplitl [HO]; · iapply (owes_out m c); iexact HO
  isplitl [H0]; · iexact H0
  isplitl [H1]; · iexact H1
  isplitl [H2]; · iexact H2
  iexact H3

set_option maxRecDepth 65536 in
theorem body_ok (c : Dev nD) : BodyObligation (dat0 m c) (defs₀ (F := F)) 𝒱₀ 0 Set.univ := by
  intro t
  obtain rfl := fin_N0 t
  rw [bigSep_W0, bigSep_W0, Φ_first, Φ_next]
  exact body_pipe m c

/-! ## Into the region and out of it -/

theorem open_one (A : Dev nD → Vec F S8x256x1024 .bf16) (κ : GSem nD τ sig → ℕ) (ι : Key → ℕ) (g : GSem nD τ sig) (hg : g ∈ cells) :
    iprop(env A κ ι ∗ openTok ER g ∗ semVal g 0) ⊢ (iprop(|={Set.univ}=> at' g 0) : sProp 𝕄) := by
  iintro ⟨#HE, Ho, Hv⟩
  ihave #Hc := (env_cell A κ ι hg) $$ []
  · iexact HE
  imod (Rounds.cell_open ER (rd A) (g := g) (Set.mem_univ _)) $$ [Ho Hv] with H
  · isplitr; · iexact Hc
    isplitl [Ho]; · iexact Ho
    iexact Hv
  imodintro
  unfold at'
  iexact H

theorem hopen (c : Dev nD) : iprop(Tk m c ∗ Pipeline.ownSems0 scL c ∗ levAts L lv) ⊢ (iprop(|={Set.univ}=> Xk m c) : sProp 𝕄) := by
  unfold Tk Xk Kept Start agRest
  rw [own_eq, nine]
  iintro ⟨⟨%κ, %ι, #HE, Hb, Hcb, Ht0, Ht1, #Hr0, #Hr1, Hcr, Htk, Hrs, Hag, Hra0, Hra1, Ho0, Ho1, Ho2, Ho3, Ho4, Ho5, Ho6, Ho7, Ho8⟩, ⟨Hv0, Hv1, Hv2, Hv3, Hv4, Hv5, Hv6, Hv7, Hv8⟩, -⟩
  imod (open_one (Am m) κ ι (creC c) (cre_mem c)) $$ [Ho0 Hv0] with H0
  · isplitr; · iexact HE
    isplitl [Ho0]; · iexact Ho0
    iexact Hv0
  imod (open_one (Am m) κ ι (rsSC c 0) (rsS_mem c 0)) $$ [Ho1 Hv1] with H1
  · isplitr; · iexact HE
    isplitl [Ho1]; · iexact Ho1
    iexact Hv1
  imod (open_one (Am m) κ ι (rsSC c 1) (rsS_mem c 1)) $$ [Ho2 Hv2] with H2
  · isplitr; · iexact HE
    isplitl [Ho2]; · iexact Ho2
    iexact Hv2
  imod (open_one (Am m) κ ι (rsVC c 0) (rsV_mem c 0)) $$ [Ho3 Hv3] with H3
  · isplitr; · iexact HE
    isplitl [Ho3]; · iexact Ho3
    iexact Hv3
  imod (open_one (Am m) κ ι (rsVC c 1) (rsV_mem c 1)) $$ [Ho4 Hv4] with H4
  · isplitr; · iexact HE
    isplitl [Ho4]; · iexact Ho4
    iexact Hv4
  imod (open_one (Am m) κ ι (agSC c 0) (agS_mem c 0)) $$ [Ho5 Hv5] with H5
  · isplitr; · iexact HE
    isplitl [Ho5]; · iexact Ho5
    iexact Hv5
  imod (open_one (Am m) κ ι (agSC c 1) (agS_mem c 1)) $$ [Ho6 Hv6] with H6
  · isplitr; · iexact HE
    isplitl [Ho6]; · iexact Ho6
    iexact Hv6
  imod (open_one (Am m) κ ι (agVC c 0) (agV_mem c 0)) $$ [Ho7 Hv7] with H7
  · isplitr; · iexact HE
    isplitl [Ho7]; · iexact Ho7
    iexact Hv7
  imod (open_one (Am m) κ ι (agVC c 1) (agV_mem c 1)) $$ [Ho8 Hv8] with H8
  · isplitr; · iexact HE
    isplitl [Ho8]; · iexact Ho8
    iexact Hv8
  imodintro
  iexists κ; iexists ι
  isplitr; · iexact HE
  isplitl [Hb]; · iexact Hb
  isplitl [Hcb]; · iexact Hcb
  isplitl [Ht0]; · iexact Ht0
  isplitl [Ht1]; · iexact Ht1
  isplitr; · iexact Hr0
  isplitr; · iexact Hr1
  isplitl [H0]; · iexact H0
  isplitl [Hcr]; · iexact Hcr
  isplitl [Htk]; · iexact Htk
  isplitl [Hrs]; · iexact Hrs
  unfold two
  isplitl [H1 H2]
  · isplitl [H1]; · iexact H1
    iexact H2
  isplitl [H3 H4]
  · isplitl [H3]; · iexact H3
    iexact H4
  isplitl [Hag H5 H6 H7 H8]
  · isplitl [Hag]; · iexact Hag
    isplitl [H5 H6]
    · isplitl [H5]; · iexact H5
      iexact H6
    isplitl [H7]; · iexact H7
    iexact H8
  isplitl [Hra0]; · iexact Hra0
  iexact Hra1

theorem held_none (c : Dev nD) (W : Valuation τ sig (Elt F)) : (StableHlo.held (c.tc : Thread nD τ) (∅ : Finset (DevRef τ sig)) W : sProp 𝕄) = BI.emp := by
  unfold StableHlo.held
  exact BI.bigSep_empty

theorem rest_eq (c : Dev nD) : (Pipeline.scopedRest spec0 c : sProp 𝕄) = scratch c := scopedRest0_eq c

/-- What the region leaves in the result's array. -/
def outs : Outs (F := F) := fun _ r c => Function.update (V3 m c) main_v23 (res m) r

theorem hin (c : Dev nD) : iprop(Pipeline.scopedRest spec0 c ∗ (∃ r, prngReg c r) ∗ StableHlo.held (c.tc : Thread nD τ) (∅ : Finset (DevRef τ sig)) (V3 m c) ∗ Xk m c)
    ⊢ (dat0 m c).Φ 0 := by
  rw [show (dat0 m c).Φ 0 = iprop(Xk m c ∗ scratch c ∗ ∃ r, prngReg c r) from rfl, rest_eq]
  iintro ⟨Hs, Hp, -, HX⟩
  isplitl [HX]; · iexact HX
  isplitl [Hs]; · iexact Hs
  iexact Hp
theorem hout (c : Dev nD) : (dat0 m c).Φ (Fin.last cfg0.N)
    ⊢ iprop(Pipeline.scopedRest spec0 c ∗ (∃ r, prngReg c r) ∗ StableHlo.held (c.tc : Thread nD τ) (∅ : Finset (DevRef τ sig)) (V4 m (outs m) c)
      ∗ Pipeline.ownSems0 scL c ∗ Yk c) := by
  rw [show (dat0 m c).Φ (Fin.last cfg0.N) = iprop(Yk c ∗ Pipeline.ownSems0 scL c ∗ scratch c ∗ ∃ r, prngReg c r) from rfl, rest_eq, held_none]
  iintro ⟨HY, HO, Hs, Hp⟩
  isplitl [Hs]; · iexact Hs
  isplitl [Hp]; · iexact Hp
  isplitr; · iempintro
  isplitl [HO]; · iexact HO
  iexact HY

/-! ## The region -/

theorem own_facts : Pipeline.OwnSemFacts spec0 scL := by decide

theorem stage_role : ∀ (w : Fin 4) (s : Fin (win0 w).nbuf), role (.dma ((win0 w).sem s)) = .other := by decide

theorem owed_above (c : Dev nD) (t : Fin (cfg0.N + 1)) (g : GSem nD τ sig) (i : ℕ) (h : 0 < (dat0 m c).owed t g i) : i ∈ L g ∧ 0 < lv g i := by
  rw [show (dat0 m c).owed t = if t.val = 0 then O₀ c else 0 from rfl] at h
  split at h
  · unfold O₀ at h
    rw [Pi.add_apply, Pi.add_apply, Finsupp.add_apply, Finsupp.add_apply, tallyAt_apply, tallyAt_apply] at h
    by_cases h1 : g = barC (nx c) ∧ i = 0
    · obtain ⟨rfl, rfl⟩ := h1
      exact ⟨by unfold barC; rw [L_tc]; decide, by show 0 < levOf (role (.reg barS)) 0; rw [role_bar]; decide⟩
    by_cases h2 : g = barC (pv c) ∧ i = 0
    · obtain ⟨rfl, rfl⟩ := h2
      exact ⟨by unfold barC; rw [L_tc]; decide, by show 0 < levOf (role (.reg barS)) 0; rw [role_bar]; decide⟩
    rw [if_neg h1, if_neg h2, Nat.add_zero] at h
    have h' : 0 < due c 0 0 g i := h
    rcases due_pos h' with ⟨s, -, hs, rfl, rfl⟩ | ⟨σ, -, hσ, rfl, rfl⟩
    · rw [recvC_tc, lv_recv]; exact ⟨Finset.mem_range.mpr (by omega), by omega⟩
    · rw [lv_cre]; exact ⟨by unfold creC; rw [L_tc]; exact Finset.mem_range.mpr (stepOf_lt hσ), by omega⟩
  · exact absurd h (Nat.lt_irrefl 0)

theorem arrs_in (c : Dev nD) (w : Fin 4) (h : (win0 w).isOut = false) : (dat0 m c).arrAt w cfg0.N = V3 m c (Proc.devRef .tc (Pipeline.arrRef spec0 w)) :=
  (dat0 m c).arrAt_in w h cfg0.N

theorem arr_out (c : Dev nD) : (dat0 m c).arrAt 3 cfg0.N = res m :=
  (dat0 m c).arrAt_eq_of_after_last 3 t0_0 (by decide) (res m) (fun j => rfl) (Memref.isWhole_whole _)

theorem V4_in (c : Dev nD) (r : Ref sig .tc) (h : r ≠ main_v23) : V4 m (outs m) c r = V3 m c r :=
  V4_of m (outs m) c r (by simpa using h)
theorem V4_out (c : Dev nD) : V4 m (outs m) c main_v23 = res m := by
  unfold outs
  rw [show V4 m (fun _ r c => Function.update (V3 m c) main_v23 (res m) r) c main_v23 = Function.update (V3 m c) main_v23 (res m) main_v23 from Function.update_self ..]
  exact Function.update_self ..

theorem arrs_after (c : Dev nD) : ∀ w : Fin 4, (dat0 m c).arrAt w cfg0.N = V4 m (outs m) c (Proc.devRef .tc (Pipeline.arrRef spec0 w))
  | 0 => (arrs_in m c 0 rfl).trans (V4_in m c main_arg0 (by decide)).symm
  | 1 => (arrs_in m c 1 rfl).trans (V4_in m c main_v22 (by decide)).symm
  | 2 => (arrs_in m c 2 rfl).trans (V4_in m c main_arg3 (by decide)).symm
  | 3 => (arr_out m c).trans (V4_out m c).symm

/-- The unscoped buffers that are no window's array. -/
abbrev others : Finset (DevRef τ sig) := Pipeline.ucRefs τ sig \ Pipeline.arrRefs (τ := τ) spec0
theorem arrs_sub : Pipeline.arrRefs (τ := τ) spec0 ⊆ Pipeline.ucRefs τ sig := Pipeline.arrRefs_sub_ucRefs spec0 (by decide)

theorem others_same (c : Dev nD) (b : DevRef τ sig) (h : b ∈ others) : V4 m (outs m) c b = V3 m c b :=
  Function.update_of_ne (fun he : b = Proc.devRef .tc main_v23 => (Finset.mem_sdiff.mp h).2 (by
    rw [he]; exact Finset.mem_map_of_mem _ (Finset.mem_image.mpr ⟨3, Finset.mem_univ _, rfl⟩))) ..

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 scL own_facts
    ∅ others (Finset.empty_subset _) launch0.toP rfl (fun c => (body_ok m c).loose)
    (fun _ => 0) O₀ (fun c => (zero_add (O₀ c)).symm) (fun _ => rfl) (fun _ => rfl) (fun _ w => by fin_cases w <;> rfl)
    (V3 m) (V4 m (outs m)) (fun c b hb => others_same m c b (Finset.mem_sdiff.mp hb).1)
    (Tk m) Yk (Xk m) Yk (hopen m) (hin m) (hout m)
    (fun c => by iintro H; imodintro; iexact H)
    (fun _ => 0)
    ⟨fun c _ _ => by rw [L_tc]; decide, fun c w s => by
        show levOf (role (.dma ((win0 w).sem s))) 0 ≤ 0
        rw [stage_role]; decide, fun c t g i h => owed_above m c t g i h⟩
    (fun _ => iprop(emp))
    (fun _ w => by fin_cases w <;> rfl) (fun c w => arrs_after m c w)

/-- What runs alongside the host's operations, before the region and after it. -/
def side : Fin 2 → Dev nD → sProp 𝕄
  | 0 => fun c => iprop(Tk m c ∗ (∃ r, prngReg c r) ∗ ow c (O₀ c))
  | 1 => fun c => iprop(semVal (barC c) 0 ∗ ow c 0)

theorem pre0 (c : Dev nD) : iprop(StableHlo.held (c : Thread nD τ) (Pipeline.ucRefs τ sig) (V3 m c) ∗ side m 0 c) ⊢ (reg0 m).pre c := by
  show _ ⊢ iprop(StableHlo.held (c.tc : Thread nD τ) (Pipeline.arrRefs (τ := τ) spec0) (V3 m c) ∗ (∃ r, prngReg c r)
    ∗ (StableHlo.held (c.tc : Thread nD τ) others (V3 m c) ∗ emp) ∗ Tk m c ∗ ∃ Wd, owes (c : Thread nD τ) (0 + O₀ c) Wd)
  rw [StableHlo.held_sub_split (c.tc) arrs_sub, zero_add, show side m 0 c = iprop(Tk m c ∗ (∃ r, prngReg c r) ∗ ow c (O₀ c)) from rfl]
  unfold ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem post0 (c : Dev nD) : (reg0 m).post c ⊢ iprop(StableHlo.held (c : Thread nD τ) (Pipeline.ucRefs τ sig) (V4 m (outs m) c) ∗ side m 1 c) := by
  show iprop(StableHlo.held (c.tc : Thread nD τ) (Pipeline.arrRefs (τ := τ) spec0) (V4 m (outs m) c) ∗ (∃ r, prngReg c r)
    ∗ (StableHlo.held (c.tc : Thread nD τ) others (V4 m (outs m) c) ∗ emp) ∗ Yk c ∗ ∃ Wd, owes (c : Thread nD τ) 0 Wd) ⊢ _
  rw [StableHlo.held_sub_split (c.tc) arrs_sub (V4 m (outs m) c), show side m 1 c = iprop(semVal (barC c) 0 ∗ ow c 0) from rfl]
  unfold ow Yk
  iintro ⟨Ha, -, ⟨Hr, -⟩, HY, HO⟩
  isplitl [Ha Hr]
  · isplitl [Ha]; · iexact Ha
    iexact Hr
  isplitl [HY]; · iexact HY
  iexact HO

end Cert.KernelIdeal.Talk

end
-- ==== Proof.Deal.lean ====
/- What the launch deals out, and how it is handed around the ring. -/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Numbered families -/

/-- A family over `n` numbers, its numbers as members of `Fin n`. -/
theorem big_fin (n : ℕ) (Φ : ℕ → sProp 𝕄) : bigSep Finset.univ (fun k : Fin n => Φ k.val) = bigSep (Finset.Ico 0 n) Φ := by
  refine (bigSep_map (s := Finset.univ) (Fin.valEmbedding (n := n)) (Φ := Φ)).symm.trans ?_
  refine congrArg (fun s => bigSep s Φ) (Finset.ext fun k => ?_)
  simp only [Finset.mem_map, Finset.mem_univ, true_and, Fin.valEmbedding_apply, Finset.mem_Ico, Nat.zero_le]
  exact ⟨fun ⟨a, h⟩ => h ▸ a.isLt, fun h => ⟨⟨k, h⟩, rfl⟩⟩
/-- Its first members. -/
theorem big_first {a n : ℕ} (h : a ≤ n) (Φ : ℕ → sProp 𝕄) : bigSep Finset.univ (fun k : Fin n => Φ k.val) ⊢ bigSep (Finset.Ico 0 a) Φ := by
  rw [big_fin]
  exact bigSep_subset (Finset.Ico_subset_Ico_right h)
theorem big_two (Φ : ℕ → sProp 𝕄) : bigSep (Finset.Ico 0 2) Φ = iprop(Φ 0 ∗ Φ 1) := by
  rw [← big_fin]; exact bigSep_fin_two _
theorem seven (Φ : ℕ → sProp 𝕄) : bigSep (Finset.Ico 0 7) Φ = iprop(Φ 0 ∗ Φ 1 ∗ Φ 2 ∗ Φ 3 ∗ Φ 4 ∗ Φ 5 ∗ Φ 6) := by
  rw [← big_fin, bigSep_univ_eq_bigSepL [0, 1, 2, 3, 4, 5, 6] (by decide) (by decide)]
  rfl

/-! ## The duties' tokens -/

/-- The six kinds of duty: the barrier's, the credit's, and the copies' on either side of either phase. -/
def tokSem (k : Fin 6) (j : Fin 10) : SemLoc sig :=
  match k with
  | 0 => .reg barS | 1 => .reg creS | 2 => .dma (rsS (par j)) | 3 => .dma (rsV (par j)) | 4 => .dma (agS (par j)) | 5 => .dma (agV (par j))
def tokRound (k : Fin 6) (j : Fin 10) : ℕ := if k.val < 2 then 0 else j.val / 2
def tokDuty (k : Fin 6) (j : Fin 10) : ℕ := if k.val < 2 then j.val else 0
theorem tok_inj : Function.Injective fun x : Fin 6 × Fin 10 => (tokSem x.1 x.2, tokRound x.1 x.2, tokDuty x.1 x.2) := by decide +kernel
def tokEmb : Dev nD × (Fin 6 × Fin 10) ↪ GSem nD τ sig × ℕ × ℕ :=
  ⟨fun x => (((x.1 : Thread nD τ), tokSem x.2.1 x.2.2), tokRound x.2.1 x.2.2, tokDuty x.2.1 x.2.2), fun a b h =>
    Prod.ext (Prod.mk.inj (Prod.mk.inj (Prod.mk.inj h).1).1).1
      (tok_inj (Prod.ext (Prod.mk.inj (Prod.mk.inj h).1).2 (Prod.mk.inj h).2))⟩
/-- Every duty's token. -/
def allToks : Finset (GSem nD τ sig × ℕ × ℕ) := Finset.univ.map tokEmb

/-- The tokens of a device's cells that its left neighbour spends. -/
def toLeft (d : Dev nD) : sProp 𝕄 :=
  iprop(dutyTok ER (barC d) 0 1 ∗ (bigSep (Finset.Ico 0 7) fun k => dutyTok ER (rsVC d (par k)) (k / 2) 0)
    ∗ bigSep (Finset.Ico 0 7) fun k => dutyTok ER (agVC d (par k)) (k / 2) 0)
/-- The tokens its right neighbour spends. -/
def toRight (d : Dev nD) : sProp 𝕄 :=
  iprop(dutyTok ER (barC d) 0 0 ∗ bigSep (Finset.Ico 0 10) fun σ => dutyTok ER (creC d) 0 σ)
/-- The tokens it spends itself. -/
def ownToks (d : Dev nD) : sProp 𝕄 :=
  iprop((bigSep (Finset.Ico 0 7) fun k => dutyTok ER (rsSC d (par k)) (k / 2) 0)
    ∗ bigSep (Finset.Ico 0 7) fun k => dutyTok ER (agSC d (par k)) (k / 2) 0)

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  rfl

theorem toks_kinds (d : Dev nD) :
    bigSep Finset.univ (fun x : Fin 6 × Fin 10 => (dutyTok ER ((d : Thread nD τ), tokSem x.1 x.2) (tokRound x.1 x.2) (tokDuty x.1 x.2) : sProp 𝕄))
      = iprop((bigSep Finset.univ fun j : Fin 10 => dutyTok ER (barC d) 0 j.val) ∗ (bigSep Finset.univ fun j : Fin 10 => dutyTok ER (creC d) 0 j.val)
        ∗ (bigSep Finset.univ fun j : Fin 10 => dutyTok ER (rsSC d (par j.val)) (j.val / 2) 0) ∗ (bigSep Finset.univ fun j : Fin 10 => dutyTok ER (rsVC d (par j.val)) (j.val / 2) 0)
        ∗ (bigSep Finset.univ fun j : Fin 10 => dutyTok ER (agSC d (par j.val)) (j.val / 2) 0) ∗ bigSep Finset.univ fun j : Fin 10 => dutyTok ER (agVC d (par j.val)) (j.val / 2) 0) := by
  rw [bigSep_univ_prod, six]
  rfl

theorem toks_dev (d : Dev nD) :
    bigSep Finset.univ (fun x : Fin 6 × Fin 10 => (dutyTok ER ((d : Thread nD τ), tokSem x.1 x.2) (tokRound x.1 x.2) (tokDuty x.1 x.2) : sProp 𝕄))
      ⊢ iprop(toLeft d ∗ toRight d ∗ ownToks d) := by
  rw [toks_kinds]
  unfold toLeft toRight ownToks
  iintro ⟨H0, H1, H2, H3, H4, H5⟩
  ihave H0' := ((big_first (a := 2) (n := 10) (by decide) (fun j => (dutyTok ER (barC d) 0 j : sProp 𝕄))).trans (Entails.of_eq (big_two _))) $$ H0
  ihave H1' := (big_first (a := 10) (n := 10) (by decide) (fun j => (dutyTok ER (creC d) 0 j : sProp 𝕄))) $$ H1
  ihave H2' := (big_first (a := 7) (n := 10) (by decide) (fun k => (dutyTok ER (rsSC d (par k)) (k / 2) 0 : sProp 𝕄))) $$ H2
  ihave H3' := (big_first (a := 7) (n := 10) (by decide) (fun k => (dutyTok ER (rsVC d (par k)) (k / 2) 0 : sProp 𝕄))) $$ H3
  ihave H4' := (big_first (a := 7) (n := 10) (by decide) (fun k => (dutyTok ER (agSC d (par k)) (k / 2) 0 : sProp 𝕄))) $$ H4
  ihave H5' := (big_first (a := 7) (n := 10) (by decide) (fun k => (dutyTok ER (agVC d (par k)) (k / 2) 0 : sProp 𝕄))) $$ H5
  icases H0' with ⟨Ha, Hb⟩
  isplitl [Hb H3' H5']
  · isplitl [Hb]; · iexact Hb
    isplitl [H3']; · iexact H3'
    iexact H5'
  isplitl [Ha H1']
  · isplitl [Ha]; · iexact Ha
    iexact H1'
  isplitl [H2']; · iexact H2'
  iexact H4'

theorem toks_all : bigSep allToks (fun x => (dutyTok ER x.1 x.2.1 x.2.2 : sProp 𝕄)) ⊢ bigSep Finset.univ fun d : Dev nD => iprop(toLeft d ∗ toRight d ∗ ownToks d) := by
  unfold allToks; rw [bigSep_map, bigSep_univ_prod]
  exact bigSep_mono fun d _ => toks_dev d

/-! ## The slots' tokens -/

def wrKey (a : Fin 2) (k : Fin 7) : ℕ × ℕ := if a = 0 then (k.val % 2, k.val / 2) else (k.val + 2, 0)
theorem wr_inj : Function.Injective fun x : Fin 2 × Fin 7 => wrKey x.1 x.2 := by decide
theorem wr_lt : ∀ a k, (wrKey a k).1 < 9 ∧ (wrKey a k).2 < 4 := by decide
def wrEmb : Dev nD × (Fin 2 × Fin 7) ↪ Key × ℕ :=
  ⟨fun x => ((x.1, (wrKey x.2.1 x.2.2).1), (wrKey x.2.1 x.2.2).2), fun a b h =>
    Prod.ext (Prod.mk.inj (Prod.mk.inj h).1).1 (wr_inj (Prod.ext (Prod.mk.inj (Prod.mk.inj h).1).2 (Prod.mk.inj h).2))⟩

/-- The tokens for writing a device's slots, which its left neighbour spends. -/
def writes (d : Dev nD) : sProp 𝕄 :=
  iprop((bigSep (Finset.Ico 0 7) fun k => Release.writeTok ES (d, k % 2) (k / 2 + 1))
    ∗ bigSep (Finset.Ico 0 7) fun k => Release.writeTok ES (d, k + 2) 1)

theorem two_fam (Φ : Fin 2 → sProp 𝕄) : bigSep Finset.univ Φ = iprop(Φ 0 ∗ Φ 1) := bigSep_fin_two Φ

theorem writes_all : bigSep (keys ×ˢ Finset.range 4) (fun x => (Release.writeTok ES x.1 (x.2 + 1) : sProp 𝕄)) ⊢ bigSep Finset.univ fun d : Dev nD => writes d := by
  refine (bigSep_subset (t := Finset.univ.map wrEmb) fun x hx => ?_).trans ?_
  · obtain ⟨y, -, rfl⟩ := Finset.mem_map.mp hx
    exact Finset.mem_product.mpr ⟨key_mem _ _ (wr_lt _ _).1, Finset.mem_range.mpr (wr_lt _ _).2⟩
  · rw [bigSep_map, bigSep_univ_prod]
    refine bigSep_mono fun d _ => ?_
    rw [bigSep_univ_prod, two_fam]
    unfold writes
    rw [← big_fin 7, ← big_fin 7]
    exact BI.Entails.refl _

/-- What a device reads of its slots. -/
def reads (d : Dev nD) : sProp 𝕄 :=
  iprop(Release.readerAt ES (d, 0) 0 ∗ Release.readerAt ES (d, 1) 0 ∗ bigSep (Finset.Ico 0 7) fun k => Release.readerAt ES (d, k + 2) 0)
def rdEmb : Dev nD × Fin 9 ↪ Key := ⟨fun x => (x.1, x.2.val), fun a b h => Prod.ext (Prod.mk.inj h).1 (Fin.ext (Prod.mk.inj h).2)⟩

theorem reads_all : bigSep keys (fun k => (Release.readerAt ES k 0 : sProp 𝕄)) ⊢ bigSep Finset.univ fun d : Dev nD => reads d := by
  refine (bigSep_subset (t := Finset.univ.map rdEmb) fun x hx => ?_).trans ?_
  · obtain ⟨y, -, rfl⟩ := Finset.mem_map.mp hx
    exact key_mem _ _ y.2.isLt
  · rw [bigSep_map, bigSep_univ_prod]
    refine bigSep_mono fun d _ => ?_
    unfold reads
    rw [nine, seven]
    exact BI.Entails.refl _

/-! ## The credit a device starts with -/

/-- What the others owe to device `c`. -/
def want (c : Dev nD) : CellTallies nD τ sig ℕ :=
  (∑ g ∈ Finset.Ico 0 14, tallyAt (recvC c g) g N) + (∑ σ ∈ Finset.Ico 0 10, tallyAt (creC c) (stepOf σ) 1) + tallyAt (barC c) 0 1 + tallyAt (barC c) 0 1

theorem sum_owed : (∑ d : Dev nD, O₀ d) = ∑ c : Dev nD, want c := by
  unfold O₀ due want
  rw [Finset.sum_add_distrib, Finset.sum_add_distrib, Finset.sum_add_distrib, Finset.sum_add_distrib, Finset.sum_add_distrib, Finset.sum_add_distrib,
    ← Equiv.sum_comp turn fun c => ∑ g ∈ Finset.Ico 0 14, (tallyAt (recvC c g) g N : CellTallies nD τ sig ℕ),
    ← Equiv.sum_comp turn.symm fun c => ∑ σ ∈ Finset.Ico 0 10, (tallyAt (creC c) (stepOf σ) 1 : CellTallies nD τ sig ℕ)]
  refine congrArg₂ (· + ·) (congrArg₂ (· + ·) rfl ?_) ?_
  · exact Equiv.sum_comp turn fun c => (tallyAt (barC c) 0 1 : CellTallies nD τ sig ℕ)
  · exact Equiv.sum_comp turn.symm fun c => (tallyAt (barC c) 0 1 : CellTallies nD τ sig ℕ)

theorem recvC_dev (c : Dev nD) (g : ℕ) : (recvC c g).1 = (c : Thread nD τ) := by unfold recvC; split <;> rfl

theorem want_ne {c d : Dev nD} (h : d ≠ c) (sm : SemLoc sig) : want d ((c : Thread nD τ), sm) = 0 := by
  have hne : ∀ g : GSem nD τ sig, g.1 = (d : Thread nD τ) → ((c : Thread nD τ), sm) ≠ g := fun g hg he =>
    h (Prod.mk.inj (hg.symm.trans (congrArg Prod.fst he).symm)).1
  unfold want
  rw [Pi.add_apply, Pi.add_apply, Pi.add_apply, Finset.sum_apply, Finset.sum_apply, tallyAt_ne_cell (hne _ rfl),
    Finset.sum_eq_zero fun g _ => tallyAt_ne_cell (hne _ (recvC_dev d g)) _ _, Finset.sum_eq_zero fun σ _ => tallyAt_ne_cell (hne _ rfl) _ _]
  simp only [add_zero]

theorem launch_want (c : Dev nD) (sm : SemLoc sig) : launchCredit (Pipeline.owing O₀) 0 ((c : Thread nD τ), sm) = want c ((c : Thread nD τ), sm) := by
  refine Finsupp.ext fun i => ?_
  rw [Pipeline.launchCredit_owing]
  have h := congrArg (fun T : CellTallies nD τ sig ℕ => T ((c : Thread nD τ), sm) i) sum_owed
  simp only [Finset.sum_apply, Finsupp.finset_sum_apply] at h
  rw [h, Finset.sum_eq_single c (fun d _ hd => by rw [want_ne hd]; rfl) (fun h => absurd (Finset.mem_univ c) h)]

/-- A tally's credit at the cells of device `c`. -/
def credOn (c : Dev nD) (T : CellTallies nD τ sig ℕ) : sProp 𝕄 :=
  bigSep Finset.univ fun sm : SemLoc sig => cred (tallyOn ((c : Thread nD τ), sm) (T ((c : Thread nD τ), sm)))

theorem credOn_add (c : Dev nD) (T₁ T₂ : CellTallies nD τ sig ℕ) : (credOn c (T₁ + T₂) : sProp 𝕄) ⊢ iprop(credOn c T₁ ∗ credOn c T₂) := by
  unfold credOn
  refine (bigSep_mono fun sm _ => ?_).trans (Entails.of_eq (bigSep_sep' _ _ _))
  have e : tallyOn ((c : Thread nD τ), sm) ((T₁ + T₂) ((c : Thread nD τ), sm))
      = (tallyOn ((c : Thread nD τ), sm) (T₁ ((c : Thread nD τ), sm)) + tallyOn ((c : Thread nD τ), sm) (T₂ ((c : Thread nD τ), sm)) : CellTallies nD τ sig ℕ) :=
    Pi.single_add ..
  rw [e]
  exact (cred_add _ _).1
theorem credOn_at (c : Dev nD) (g : GSem nD τ sig) (hg : g.1 = (c : Thread nD τ)) (i n : ℕ) : (credOn c (tallyAt g i n) : sProp 𝕄) ⊢ cred (tallyAt g i n) := by
  obtain ⟨t, sm⟩ := g
  obtain rfl : t = (c : Thread nD τ) := hg
  refine (bigSep_elim (Finset.mem_univ sm)).trans (Entails.of_eq (congrArg cred ?_))
  unfold tallyAt
  rw [tallyOn_self]
theorem credOn_sum (c : Dev nD) (f : ℕ → CellTallies nD τ sig ℕ) (Φ : ℕ → sProp 𝕄) (h : ∀ k, credOn c (f k) ⊢ Φ k) (s : Finset ℕ) :
    (credOn c (∑ k ∈ s, f k) : sProp 𝕄) ⊢ bigSep s Φ := by
  induction s using Finset.induction_on with
  | empty => rw [bigSep_empty]; iintro -; iempintro
  | insert k s hk ih =>
    rw [Finset.sum_insert hk, big_insert hk]
    exact (credOn_add c _ _).trans (BIClass.sep_mono (h k) ih)

/-- The credits as the kernel uses them. -/
def credits (c : Dev nD) : sProp 𝕄 :=
  iprop(cred (tallyAt (barC c) 0 2) ∗ (bigSep (Finset.Ico 0 10) fun σ => cred (tallyAt (creC c) (stepOf σ) 1))
    ∗ (bigSep (Finset.Ico 0 7) fun k => cred (tallyAt (rsVC c (par k)) k N)) ∗ bigSep (Finset.Ico 0 7) fun k => cred (tallyAt (agVC c (par k)) (7 + k) N))

def addSeven : ℕ ↪ ℕ := ⟨fun k => 7 + k, fun _ _ h => Nat.add_left_cancel h⟩
theorem fourteen (Φ : ℕ → sProp 𝕄) : bigSep (Finset.Ico 0 14) Φ = iprop(bigSep (Finset.Ico 0 7) Φ ∗ bigSep (Finset.Ico 0 7) fun k => Φ (7 + k)) := by
  rw [show Finset.Ico 0 14 = Finset.Ico 0 7 ∪ (Finset.Ico 0 7).map addSeven from by decide, bigSep_union (by decide), bigSep_map]
  rfl

theorem landings_early (c : Dev nD) : (bigSep (Finset.Ico 0 7) fun g => (cred (tallyAt (recvC c g) g N) : sProp 𝕄))
    ⊢ bigSep (Finset.Ico 0 7) fun k => cred (tallyAt (rsVC c (par k)) k N) :=
  bigSep_mono fun k hk => by unfold recvC; rw [if_pos (Finset.mem_Ico.mp hk).2]; exact BI.Entails.refl _
theorem landings_late (c : Dev nD) : (bigSep (Finset.Ico 0 7) fun k => (cred (tallyAt (recvC c (7 + k)) (7 + k) N) : sProp 𝕄))
    ⊢ bigSep (Finset.Ico 0 7) fun k => cred (tallyAt (agVC c (par k)) (7 + k) N) :=
  bigSep_mono fun k hk => by unfold recvC; rw [if_neg (by omega), Nat.add_sub_cancel_left]; exact BI.Entails.refl _

theorem credits_launch (c : Dev nD) : (Pipeline.launchCred O₀ c : sProp 𝕄) ⊢ credits c := by
  have e : (Pipeline.launchCred O₀ c : sProp 𝕄) = credOn c (want c) := by
    unfold Pipeline.launchCred credOn
    exact bigSep_congr fun sm _ => by rw [launch_want]
  rw [e]
  unfold want credits
  rw [add_assoc, tallyAt_add]
  iintro H
  ihave H := (credOn_add c _ _) $$ H
  icases H with ⟨H, Hb⟩
  ihave H := (credOn_add c _ _) $$ H
  icases H with ⟨Hr, Hc⟩
  isplitl [Hb]; · iapply (credOn_at c (barC c) rfl 0 2); iexact Hb
  isplitl [Hc]; · iapply (credOn_sum c _ _ (fun σ => credOn_at c (creC c) rfl (stepOf σ) 1) _); iexact Hc
  ihave Hr' := ((credOn_sum c _ _ (fun g => credOn_at c (recvC c g) (recvC_dev c g) g N) _).trans (Entails.of_eq (fourteen _))) $$ Hr
  icases Hr' with ⟨H1, H2⟩
  isplitl [H1]
  · iapply (landings_early c); iexact H1
  · iapply (landings_late c); iexact H2

end Cert.KernelIdeal.Talk

end
-- ==== Proof.Launch.lean ====
/- The launch: every cell and slot funded, the tokens and credits handed around, and the run of the whole program. -/
module

public import proofs.«01_k».proof.Proof.Deal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The launch element -/

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact (by decide : ∀ k : Fin 9, scL k ≠ .reg barS) ck.2 (Prod.mk.inj h).2

def u₀ : UU :=
  (initOf (Pipeline.cells cfgs cellOf_inj) (Pipeline.launchToks cfgs cellOf_inj), (launchOf barCells scCells allToks, Release.initSlots keys 4))

/-- The cells' and slots' share of the launch element. -/
def seed : sProp 𝕄 := iprop(BI.own (ER (launchOf barCells scCells allToks)) ∗ BI.own (ES (Release.initSlots keys 4)))
/-- All of it on device 0, until it is dealt. -/
def G (c : Dev nD) : sProp 𝕄 := if c = 0 then seed else iprop(emp)

theorem G_all : bigSep Finset.univ (G (F := F)) = seed := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem launch_elem : (ownU u₀ : sProp 𝕄)
    ⊢ |={Set.univ}=> iprop(BI.own (EP (initOf (Pipeline.cells cfgs cellOf_inj) (Pipeline.launchToks cfgs cellOf_inj))) ∗ bigSep Finset.univ (G (F := F))) := by
  rw [G_all]
  unfold u₀ seed
  iintro Hu
  ihave H := (ownU_pair _ _) $$ Hu
  icases H with ⟨HP, HX⟩
  ihave H := (own_pair_emb embR _ _) $$ HX
  icases H with ⟨HR, HS⟩
  imodintro
  isplitl [HP]; · iexact HP
  isplitl [HR]; · iexact HR
  iexact HS

/-! ## Dealing -/

/-- What every device may consult. -/
def records (κ : GSem nD τ sig → ℕ) (ι : Key → ℕ) : sProp 𝕄 := iprop(env (Am m) κ ι ∗ bigSep barCells fun g => reached ER g 0)
instance records_persistent (κ : GSem nD τ sig → ℕ) (ι : Key → ℕ) : BI.Persistent (records m κ ι) := by unfold records; infer_instance

theorem bar_reached (c : Dev nD) : (bigSep barCells fun g => (reached ER g 0 : sProp 𝕄)) ⊢ reached ER (barC c) 0 :=
  bigSep_elim (Finset.mem_map_of_mem barEmb (Finset.mem_univ c))

/-- The positions and rights of a device's own cells. -/
def places (c : Dev nD) : sProp 𝕄 := iprop(atPos ER (barC c) 0 ∅ 0 ∗ bigSep Finset.univ fun k : Fin 9 => openTok ER ((c : Thread nD τ), scL k))

/-- What device `c` is dealt. -/
def dealt (c : Dev nD) : sProp 𝕄 :=
  iprop(places c ∗ (toLeft (nx c) ∗ toRight (pv c) ∗ ownToks c) ∗ writes (nx c) ∗ reads c)

theorem kept_intro (κ : GSem nD τ sig → ℕ) (ι : Key → ℕ) (c : Dev nD) :
    iprop(records m κ ι ∗ dealt c ∗ credits c) ⊢ Tk m c := by
  unfold records dealt credits Tk Kept places toLeft toRight ownToks writes reads rsIn agIn
  rw [bigSep_sep', bigSep_sep', bigSep_sep', bigSep_sep', bigSep_sep', bigSep_sep', bigSep_sep']
  iintro ⟨⟨#HE, #HR⟩, ⟨⟨Hb, Ho⟩, ⟨⟨HL0, HL1, HL2⟩, ⟨HR0, HR1⟩, HM0, HM1⟩, ⟨HW0, HW1⟩, Hr0, Hr1, Hr⟩, Hc0, Hc1, Hc2, Hc3⟩
  iexists κ; iexists ι
  isplitr; · iexact HE
  isplitl [Hb]; · iexact Hb
  isplitl [Hc0]; · iexact Hc0
  isplitl [HR0]; · iexact HR0
  isplitl [HL0]; · iexact HL0
  isplitr; · iapply (bar_reached (F := F) (pv c)); iexact HR
  isplitr; · iapply (bar_reached (F := F) (nx c)); iexact HR
  isplitl [Hc1]; · iexact Hc1
  isplitl [HR1]; · iexact HR1
  isplitl [Hr HW0 HM0 HL1 Hc2]
  · isplitl [Hr]; · iexact Hr
    isplitl [HW0]; · iexact HW0
    isplitl [HM0]; · iexact HM0
    isplitl [HL1]; · iexact HL1
    iexact Hc2
  isplitl [HW1 HM1 HL2 Hc3]
  · isplitl [HW1]; · iexact HW1
    isplitl [HM1]; · iexact HM1
    isplitl [HL2]; · iexact HL2
    iexact Hc3
  isplitl [Hr0]; · iexact Hr0
  isplitl [Hr1]; · iexact Hr1
  iexact Ho

/-- The tokens handed to the neighbours that spend them. -/
theorem toks_around : (bigSep Finset.univ fun d : Dev nD => iprop(toLeft d ∗ toRight d ∗ ownToks d))
    ⊢ (bigSep Finset.univ fun c : Dev nD => iprop(toLeft (nx c) ∗ toRight (pv c) ∗ ownToks c) : sProp 𝕄) := by
  rw [bigSep_sep', bigSep_sep', bigSep_sep', bigSep_sep', bigSep_univ_equiv turn (fun c : Dev nD => (toLeft c : sProp 𝕄)),
    bigSep_univ_equiv turn.symm (fun c : Dev nD => (toRight c : sProp 𝕄))]
  exact BI.Entails.refl _
theorem writes_around : (bigSep Finset.univ fun d : Dev nD => (writes d : sProp 𝕄)) ⊢ bigSep Finset.univ fun c : Dev nD => writes (nx c) := by
  rw [bigSep_univ_equiv turn (fun c : Dev nD => (writes c : sProp 𝕄))]
  exact BI.Entails.refl _

theorem places_all : iprop((bigSep barCells fun g => (atPos ER g 0 ∅ 0 : sProp 𝕄)) ∗ bigSep scCells fun g => openTok ER g)
    ⊢ (bigSep Finset.univ fun c : Dev nD => places c : sProp 𝕄) := by
  unfold places barCells scCells
  rw [bigSep_sep', bigSep_map, bigSep_map, bigSep_univ_prod]
  exact BI.Entails.refl _

theorem sems_bar (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

/-- What of a device's launch holdings is not the protocol's. -/
def plain (c : Dev nD) : sProp 𝕄 := iprop(credits c ∗ owes (c : Thread nD τ) (O₀ c) ∅ ∗ prngReg c (ρ c))

theorem side_intro (κ : GSem nD τ sig → ℕ) (ι : Key → ℕ) (c : Dev nD) : iprop(records m κ ι ∗ dealt c ∗ plain ρ c) ⊢ side m 0 c := by
  rw [show side m 0 c = iprop(Tk m c ∗ (∃ r, prngReg c r) ∗ ow c (O₀ c)) from rfl]
  unfold plain ow
  iintro ⟨#HK, HD, Hc, HO, Hp⟩
  isplitl [HD Hc]
  · iapply (kept_intro m κ ι c)
    isplitr; · iexact HK
    isplitl [HD]; · iexact HD
    iexact Hc
  isplitl [Hp]; · iexists (ρ c); iexact Hp
  iexists ∅; iexact HO

theorem holdings (c : Dev nD) : iprop(unscopedSems0 c ∗ owes (c : Thread nD τ) (O₀ c) ∅ ∗ Pipeline.launchCred O₀ c ∗ prngReg c (ρ c) ∗ G c)
    ⊢ (iprop(plain ρ c ∗ semVal (barC c) 0 ∗ G c) : sProp 𝕄) := by
  rw [sems_bar]
  unfold plain
  iintro ⟨Hv, HO, Hc, Hp, HG⟩
  ihave Hc' := (credits_launch (F := F) c) $$ Hc
  isplitl [Hc' HO Hp]
  · isplitl [Hc']; · iexact Hc'
    isplitl [HO]; · iexact HO
    iexact Hp
  isplitl [Hv]; · iexact Hv
  iexact HG

theorem deal : iprop((bigSep Finset.univ fun c : Dev nD => iprop(unscopedSems0 c ∗ owes (c : Thread nD τ) (O₀ c) ∅ ∗ Pipeline.launchCred O₀ c ∗ prngReg c (ρ c) ∗ G c))
      ∗ levAts L lv) ⊢ (|={Set.univ}=> bigSep Finset.univ (side m 0) : sProp 𝕄) := by
  have hsplit : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => plain ρ c) ∗ (bigSep barCells fun g => semVal g 0) ∗ seed) : sProp 𝕄) := by
    refine (bigSep_mono fun c _ => holdings ρ c).trans ?_
    rw [bigSep_sep', bigSep_sep', G_all]
    unfold barCells
    rw [bigSep_map]
    exact BI.Entails.refl _
  iintro ⟨H, #HL⟩
  ihave H' := hsplit $$ H
  unfold seed
  icases H' with ⟨Hplain, Hv, HR, HS⟩
  imod (Rounds.fund_launch ER (rd (Am m)) disjoint_cells (fun g _ h => h) allToks) $$ [Hv HR] with ⟨%κ, -, #Hinv, #Hreach, Hat, Hopen, Htok⟩
  · isplitl [Hv]; · iexact Hv
    iexact HR
  imod (Release.slots_init ES keys 4 (Sl (F := F))) $$ [HS] with ⟨%ι, -, #Hslot, Hrd, Hwr⟩
  · iexact HS
  imodintro
  iapply (bigSep_with_persistent (R := records m κ ι) (Φ := fun c => iprop(dealt c ∗ plain ρ c)) fun c _ => side_intro m ρ κ ι c)
  isplitr
  · unfold records env
    isplitr
    · isplitr; · iexact Hinv
      isplitr; · iexact Hslot
      iexact HL
    iexact Hreach
  iapply bigSep_pair
  isplitr [Hplain]
  · unfold dealt
    iapply bigSep_pair
    isplitl [Hat Hopen]
    · iapply (places_all (F := F))
      isplitl [Hat]; · iexact Hat
      iexact Hopen
    iapply bigSep_pair
    isplitl [Htok]
    · iapply (toks_around (F := F)); iapply (toks_all (F := F)); iexact Htok
    iapply bigSep_pair
    isplitl [Hwr]
    · iapply (writes_around (F := F)); iapply (writes_all (F := F)); iexact Hwr
    iapply (reads_all (F := F)); iexact Hrd
  · iexact Hplain

/-! ## The run -/

theorem unscoped_eq : ∀ sm : SemLoc sig, sm.isScoped .tc = false → sm = .reg barS := by decide

theorem in_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by simp [h]⟩

set_option backward.isDefEq.respectTransparency.types false in
/-- Every run of the program ends, with the arguments as they were, the result as computed on every device, and every semaphore
    at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v23) = res m) ∧ r.2.sem = fun _ => 0) := by
  refine Pipeline.θ_run_regions_kit_dev_sems (pcfgs (F := F)) adm (pdats m) 0 cellOf_inj EP defs₀ 𝒱₀ L lv m ρ main
    (segs m 𝒱₀ L lv (side m) 0 (pdats m) (reg0 m))
    (fun c Q => by
      rewrite [main_chain c, Pipeline.Seg.run_eq_chain,
        show (segs m 𝒱₀ L lv (side m) 0 (pdats m) (reg0 m) c).map Pipeline.Seg.prog = [
          StableHlo.seq hostOps0,
          StableHlo.seq hostOps0_1,
          StableHlo.seq (hostOps0_2 c),
          Prog.lift (.customCall (Pipeline.entry 0) ()) ] from rfl]
      dsimp (config := { failIfUnchanged := false }) only
      exact BI.Entails.refl _)
    (fun c => by simp only [segs, Pipeline.Seg.pipes_host, Pipeline.Seg.pipes_region, Pipeline.Seg.pipes_nil]; decide) O₀ L_of_ne G u₀ launch_elem
    (T₀ := fun c => iprop(StableHlo.held (c : Thread nD τ) (Pipeline.ucRefs τ sig) (V0 m c) ∗ side m 0 c))
    (Tₙ := fun c => iprop(StableHlo.held (c : Thread nD τ) (Pipeline.ucRefs τ sig) (V4 m (outs m) c) ∗ semVal (barC c) 0))
    (hch := fun c => ⟨BI.Entails.refl _, BI.Entails.refl _, BI.Entails.refl _, pre0 m c, (post0 m c).trans ?_⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v23) = res m) ∧ s.sem (barC c) = 0)
    (hfin := fun c s' => ?_) (hQ := fun s h hs => ⟨fun c => (h c).1, sem_eq_zero hs fun c sm hsm => by
        obtain rfl := unscoped_eq sm hsm
        exact (h c).2⟩)
  · show iprop(StableHlo.held (c : Thread nD τ) (Pipeline.ucRefs τ sig) (V4 m (outs m) c) ∗ (semVal (barC c) 0 ∗ ow c 0)) ⊢ _
    unfold ow
    iintro ⟨Hh, Hb, HO⟩
    isplitr [HO]
    · isplitl [Hh]; · iexact Hh
      iexact Hb
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨⟨⟨(h (Proc.devRef .tc main_arg0) (in_uc main_arg0 (by decide))).trans (V4_main_arg0 m (outs m) c),
        (h (Proc.devRef .tc main_arg1) (in_uc main_arg1 (by decide))).trans (V4_main_arg1 m (outs m) c),
        (h (Proc.devRef .tc main_arg2) (in_uc main_arg2 (by decide))).trans (V4_main_arg2 m (outs m) c),
        (h (Proc.devRef .tc main_arg3) (in_uc main_arg3 (by decide))).trans (V4_main_arg3 m (outs m) c)⟩,
        (h (Proc.devRef .tc main_v23) (in_uc main_v23 (by decide))).trans (V4_out m c)⟩, by simpa using hb⟩
    · iexact HSI

end Cert.KernelIdeal.Talk

end
-- ==== Proof.Block.lean ====
/- What a device's product part computes, an element at a time, and what the ring makes of the eight devices' blocks. -/
module

public import proofs.«01_k».proof.Proof.Body
public import Idealize.ShloMosaic.Lib.Pointwise

@[expose] public section

noncomputable section

namespace Cert.KernelIdeal.Talk

open Idealize.ShloMosaic Idealize.ShloMosaic.TcCoe
open Cert.KernelIdeal Cert.KernelIdeal.Gen

/-- The token in row `r` of chunk `j`. -/
def tok (j : Fin 8) (r : Fin 256) : Fin 2048 := ⟨256 * j.val + r.val, by omega⟩

/-- The whole load of the tokens, at a point. -/
theorem load_x (t : Fin 2048) (k : Fin 512) :
    (Rect.unit (s := S2048x512) ![0, 0] S2048x512.size inb_S2048x512_S2048x512_0_0).emb (ix2 t k) = ix2 t k :=
  funext fun a => Fin.ext (by
    match a with
    | ⟨0, _⟩ => show 0 + 1 * t.val = t.val; omega
    | ⟨1, _⟩ => show 0 + 1 * k.val = k.val; omega)

/-- The load of one column of the mask, at a point. -/
theorem load_μ (t : Fin 2048) (l : Fin 4) (hb) :
    (Rect.unit (s := S2048x4) ![0, l.val] S2048x1.size hb).emb (ix2 t 0) = ix2 t l :=
  funext fun a => Fin.ext (by
    match a with
    | ⟨0, _⟩ => show 0 + 1 * t.val = t.val; omega
    | ⟨1, _⟩ => rfl)

/-- The load of one expert's weights, at a point. -/
theorem load_w (l : Fin 4) (k : Fin 512) (h : Fin 1024) (hb) :
    (Rect.unit (s := S4x512x1024) ![l.val, 0, 0] S1x512x1024.size hb).emb (ix3 0 k h) = ix3 l k h :=
  funext fun a => Fin.ext (by
    match a with
    | ⟨0, _⟩ => rfl
    | ⟨1, _⟩ => show 0 + 1 * k.val = k.val; omega
    | ⟨2, _⟩ => show 0 + 1 * h.val = h.val; omega)

set_option maxRecDepth 16384 in
/-- One element of a device's block: over its four experts, the token's row, scaled by the mask, times the expert's matrix. -/
theorem acc_apply (x : Vec Ideal S2048x512 .bf16) (μ : Vec Ideal S2048x4 .bf16) (w : Vec Ideal S4x512x1024 .bf16) (j : Fin 8) (r : Fin 256) (h : Fin 1024) :
    acc x μ w (ix3 j r h) = ∑ l : Fin 4, ∑ k : Fin 512, (x (ix2 (tok j r) k) * μ (ix2 (tok j r) l)) * w (ix3 l k h) := by
  rw [Fin.sum_univ_four]
  pointwise [acc, k0_pay4, k0_pay2, k0_pay3]
  have ht (hlt : j.val * 256 + r.val < 2048) : (⟨j.val * 256 + r.val, hlt⟩ : Fin 2048) = tok j r := Fin.ext (by show j.val * 256 + r.val = 256 * j.val + r.val; omega)
  simp only [ht]
  refine congrArg₂ (· + ·) (congrArg₂ (· + ·) (congrArg₂ (· + ·) ?_ ?_) ?_) ?_ <;> refine Finset.sum_congr rfl fun k _ => ?_
  · exact congrArg₂ (· * ·) (congrArg₂ (· * ·) (congrArg x (load_x ..)) (congrArg μ (load_μ _ 0 _))) (congrArg w (load_w 0 ..))
  · exact congrArg₂ (· * ·) (congrArg₂ (· * ·) (congrArg x (load_x ..)) (congrArg μ (load_μ _ 1 _))) (congrArg w (load_w 1 ..))
  · exact congrArg₂ (· * ·) (congrArg₂ (· * ·) (congrArg x (load_x ..)) (congrArg μ (load_μ _ 2 _))) (congrArg w (load_w 2 ..))
  · exact congrArg₂ (· * ·) (congrArg₂ (· * ·) (congrArg x (load_x ..)) (congrArg μ (load_μ _ 3 _))) (congrArg w (load_w 3 ..))

set_option maxRecDepth 16384 in
/-- The addition in a step of the reduce-scatter, at a point. -/
theorem pay5_apply (a b : Vec Ideal S1x256x1024 .bf16) (r : Fin 256) (h : Fin 1024) :
    k0_pay5 a b (ix3 0 r h) = a (ix3 0 r h) + b (ix3 0 r h) := by
  pointwise [k0_pay5]

set_option maxRecDepth 16384 in
/-- The result is the eight chunks laid under one another. -/
theorem outOf_apply (X : Vec Ideal S8x256x1024 .bf16) (j : Fin 8) (r : Fin 256) (h : Fin 1024) :
    outOf X (ix2 (tok j r) h) = X (ix3 j r h) := by
  pointwise [outOf, k0_pay1]
  refine congrArg X (funext fun a => Fin.ext ?_)
  match a with
  | ⟨0, _⟩ => show 0 + 1 * ((256 * j.val + r.val) / 256) = j.val; omega
  | ⟨1, _⟩ => show 0 + 1 * ((256 * j.val + r.val) % 256) = r.val; omega
  | ⟨2, _⟩ => show 0 + 1 * h.val = h.val; omega

/-- A chunk is one block of the buffer. -/
theorem chunk_apply (X : Vec Ideal S8x256x1024 .bf16) (j : Dev nD) (r : Fin 256) (h : Fin 1024) :
    chunk X j (ix3 0 r h) = X (ix3 j r h) := by
  refine congrArg X (funext fun a => Fin.ext ?_)
  match a with
  | ⟨0, _⟩ => rfl
  | ⟨1, _⟩ => show 0 + 1 * r.val = r.val; omega
  | ⟨2, _⟩ => show 0 + 1 * h.val = h.val; omega

variable (A : Dev nD → Vec Ideal S8x256x1024 .bf16)

/-- A chunk on its way round holds the sum over the devices it has visited. -/
theorem P_apply (s : ℕ) (c : Dev nD) (r : Fin 256) (h : Fin 1024) :
    P A s c (ix3 0 r h) = ∑ k ∈ Finset.range (s + 1), A (bk c k) (ix3 (bk c s) r h) := by
  induction s generalizing c with
  | zero =>
    rw [Finset.sum_range_one, bk_zero]
    exact chunk_apply (A c) c r h
  | succ s ih =>
    show k0_pay5 (chunk (A c) (bk c (s + 1))) (P A s (pv c)) (ix3 0 r h) = _
    rw [pay5_apply, chunk_apply, ih, Finset.sum_range_succ' _ (s + 1), bk_zero, add_comm]
    refine congrArg (· + _) (Finset.sum_congr rfl fun k _ => ?_)
    show A (bk (bk c 1) k) (ix3 (bk (bk c 1) s) r h) = _
    rw [bk_bk, bk_bk, Nat.add_comm 1 k, Nat.add_comm 1 s]

/-- The eight devices, counted backwards from any of them. -/
theorem bk_bijective (c : Dev nD) : Function.Bijective fun k : Fin 8 => bk c k.val := by
  revert c; decide

/-- An element of the result: the eight devices' elements in one sum. -/
theorem whole_apply (j : Fin 8) (r : Fin 256) (h : Fin 1024) : whole A (ix3 j r h) = ∑ d : Dev nD, A d (ix3 j r h) := by
  have e : whole A (ix3 j r h) = P A 7 (pv j) (ix3 0 r h) := congrArg (Fn A j) (funext fun a => by
    match a with
    | ⟨0, _⟩ => rfl
    | ⟨1, _⟩ => rfl
    | ⟨2, _⟩ => rfl)
  rw [e, P_apply, Finset.sum_range, show bk (pv j) 7 = j by rw [pv, bk_bk]; exact (bk_add8 j 0).trans (bk_zero j)]
  exact (bk_bijective (pv j)).sum_comp fun d => A d (ix3 j r h)

end Cert.KernelIdeal.Talk

end
-- ==== Proof.Words.lean ====
/- Counting the tokens before a token that ask for its expert. Nothing here mentions a program. -/
module

public import Idealize.ShloMosaic.Lib.Routing.OpsOne
public import Idealize.ShloMosaic.Lib.Pointwise

@[expose] public section

namespace Cert.Moe

open Idealize.ShloMosaic

/-- The expert word of token `q`, zero past the last token. -/
def wordAt (E : Fin 2048 → BitVec 32) (q : ℕ) : BitVec 32 := if h : q < 2048 then E ⟨q, h⟩ else 0#32

/-- At an index of the list the word is the list's. -/
theorem wordAt_val (E : Fin 2048 → BitVec 32) (t : Fin 2048) : wordAt E t.val = E t := dif_pos t.isLt

/-- How many tokens before `t` ask for the expert that `t` asks for. -/
def rank (E : Fin 2048 → BitVec 32) (t : Fin 2048) : ℕ := Nat.count (fun q => wordAt E q = E t) t.val

/-- A token's rank is below the number of tokens. -/
theorem rank_lt (E : Fin 2048 → BitVec 32) (t : Fin 2048) : rank E t < 2048 := lt_of_le_of_lt (Nat.count_le _) t.isLt

/-- Token `t` asks for expert `q` and finds a place there. -/
def Served (E : Fin 2048 → BitVec 32) (t : Fin 2048) (q : ℕ) : Prop := E t = BitVec.ofNat 32 q ∧ rank E t < 51

/-- A sum of indicators over the first naturals is a count. -/
theorem sum_indicator (Q : ℕ → Prop) [DecidablePred Q] (n : ℕ) :
    ((List.range n).map fun q => if Q q then 1 else 0).sum = Nat.count Q n := by
  induction n with
  | zero => rfl
  | succ n ih => rw [List.sum_range_succ, ih, Nat.count_succ]

/-- Counting the positions before `t` among the first `n`, for `t ≤ n`, is counting the first `t`. -/
theorem count_before (Q : ℕ → Prop) [DecidablePred Q] {t n : ℕ} (h : t ≤ n) : Nat.count (fun q => Q q ∧ q < t) n = Nat.count Q t := by
  rw [Nat.count_eq_card_filter_range, Nat.count_eq_card_filter_range]
  refine congrArg Finset.card (Finset.ext fun q => ?_)
  rw [Finset.mem_filter, Finset.mem_filter, Finset.mem_range, Finset.mem_range]
  exact ⟨fun ⟨_, hQ, hq⟩ => ⟨hq, hQ⟩, fun ⟨hq, hQ⟩ => ⟨by omega, hQ, hq⟩⟩

/-- The count up to and including a token that asks for expert `q` is its rank and one. -/
theorem count_incl (E : Fin 2048 → BitVec 32) (t : Fin 2048) (q : ℕ) (h : E t = BitVec.ofNat 32 q) :
    Nat.count (fun i => wordAt E i = BitVec.ofNat 32 q) (t.val + 1) = rank E t + 1 := by
  rw [Nat.count_succ, if_pos ((wordAt_val E t).trans h)]
  exact congrArg (· + 1) (by unfold rank; simp only [h])

/-- Words of two small naturals agree only if the naturals do. -/
theorem ofNat_inj_small {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A conjunction of two bits is set where both are. -/
theorem andi_one {a b : BitVec 1} : IntOp.andi a b = 1#1 ↔ a = 1#1 ∧ b = 1#1 := by revert a b; decide

/-- A signed comparison with zero from above. -/
theorem sge_zero (v : BitVec 32) : IntOp.cmpi .sge v 0#32 = 1#1 ↔ 0 ≤ v.toInt := by
  rw [show IntOp.cmpi .sge v 0#32 = BitVec.ofBool (BitVec.sle 0#32 v) from rfl, StableHlo.Predicate.ofBool_eq_one_iff, BitVec.sle_iff_toInt_le]
  rfl

/-- A signed comparison with 32 from below. -/
theorem slt_32 (v : BitVec 32) : IntOp.cmpi .slt v 32#32 = 1#1 ↔ v.toInt < 32 := by
  rw [show IntOp.cmpi .slt v 32#32 = BitVec.ofBool (BitVec.slt v 32#32) from rfl, StableHlo.Predicate.ofBool_eq_one_iff, BitVec.slt_iff_toInt_lt]
  rfl

/-- A word in the signed range from 0 to 31 is the word of a natural below 32, and conversely. -/
theorem small_word (v : BitVec 32) : (0 ≤ v.toInt ∧ v.toInt < 32) ↔ ∃ q : Fin 32, v = BitVec.ofNat 32 q.val := by
  constructor
  · rintro ⟨h0, h1⟩
    have hv : v.toNat < 32 := by
      rw [BitVec.toInt_eq_toNat_cond] at h0 h1
      have := v.isLt
      split at h0 <;> omega
    exact ⟨⟨v.toNat, hv⟩, by rw [BitVec.ofNat_toNat, BitVec.setWidth_eq]⟩
  · rintro ⟨q, rfl⟩
    have hq := q.isLt
    rw [StableHlo.Predicate.toInt_ofNat_small _ (by omega)]
    omega

end Cert.Moe
-- ==== Proof.Mask.lean ====
/- The kernel's mask: which token a device's four experts take, and how its program computes it. -/
module

public import proofs.«01_k».proof.Proof.Gen.KernelIdeal.Regions
public import proofs.«01_k».proof.Proof.Words
public import Idealize.ShloMosaic.Lib.StableHlo.Run
public import Idealize.ShloMosaic.Lib.DynamicIndex

@[expose] public section

noncomputable section

namespace Cert.KernelIdeal.Talk

open Idealize.ShloMosaic Idealize.ShloMosaic.TcCoe Idealize.ShloMosaic.StableHlo
open Cert.KernelIdeal Cert.KernelIdeal.Gen Cert.Moe

/-- Which token asks for which expert, a bit each. -/
def asks (e : IVec S2048x1 32) : IVec S2048x32 1 :=
  cmpi .eq (broadcastInDim S2048x32 ![0, 1] bcast_S2048x1_S2048x32_0_1 (broadcastInDim S2048x1 ![0] bcast_S2048_S2048x1_0 (shapeCast S2048 e shapeCasts_S2048x1_S2048)))
    (broadcastInDim S2048x32 ![0, 1] bcast_S1x32_S2048x32_0_1 (broadcastInDim S1x32 ![1] bcast_S32_S1x32_1 (iotaInDim S32 32 0)))

/-- How many tokens up to and including each ask for each expert. -/
def upTo (e : IVec S2048x1 32) : IVec S2048x32 32 :=
  Host.reduceWindow IntOp.addi ![2048, 1] ![1, 1] ![2047, 0] ![0, 0] (extui 32 (asks e) natLt_1_32)
    (broadcastInDim S_ ![] bcast_S_S_ (constantI S_ 32 0#32)) reduceWindows_S2048x32_S2048x32_w2048s1p2047_0_w1s1p0_0 h_S_

/-- Which token finds a place with which expert, a bit each. -/
def takes (e : IVec S2048x1 32) : IVec S2048x32 1 :=
  andi (asks e) (cmpi .sle (upTo e) (broadcastInDim S2048x32 ![] bcast_S_S2048x32 (constantI S_ 32 51#32)))

/-- The first of a device's four experts, as its program computes it. -/
def firstExpert (c : Dev nD) : IVec S_ 32 :=
  let q : IVec S_ 32 := muli (id (Host.remui (Host.divui (constantI S_ 32 (Dev.word c)) (constantI S_ 32 1#32)) (constantI S_ 32 8#32))) (constantI S_ 32 4#32)
  select (cmpi .slt q (constantI S_ 32 0#32)) (addi q (constantI S_ 32 32#32)) q

/-- The comparison is set where the token's word is the expert's number. -/
theorem asks_iff (e : IVec S2048x1 32) (t : Fin 2048) (q : Fin 32) : asks e (ix2 t q) = 1#1 ↔ e (ix2 t 0) = BitVec.ofNat 32 q.val := by
  have h : asks e (ix2 t q) = IntOp.cmpi .eq (e (ix2 t 0)) (BitVec.ofNat 32 q.val) := by
    pointwise [asks]
  rw [h]; exact Predicate.cmpi_eq_iff ..

/-- The running count is the number of tokens up to and with this one that ask for the expert. -/
theorem upTo_apply (e : IVec S2048x1 32) (t : Fin 2048) (q : Fin 32) :
    upTo e (ix2 t q) = BitVec.ofNat 32 (Nat.count (fun i => wordAt (fun t => e (ix2 t 0)) i = BitVec.ofNat 32 q.val) (t.val + 1)) := by
  rw [ix2_eq_valueIdx]
  refine (Routing.cumsum_rows (R := 2048) (Rm1 := 2047) (C := 32) rfl (extui 32 (asks e) natLt_1_32)
    (fun i q => if wordAt (fun t => e (ix2 t 0)) i = BitVec.ofNat 32 q then 1 else 0) (fun i c => ?_) _ rfl _ _ t q).trans ?_
  · show BitVec.setWidth 32 (asks e (ix2 i c)) = BitVec.ofNat 32 (if wordAt (fun t => e (ix2 t 0)) i.val = BitVec.ofNat 32 c.val then 1 else 0)
    rw [wordAt_val]
    by_cases h : e (ix2 i 0) = BitVec.ofNat 32 c.val
    · rw [(asks_iff e i c).2 h, if_pos h]; rfl
    · rw [if_neg h, ValueIdx.eq_zero_of_ne_one fun h1 => h ((asks_iff e i c).1 h1)]; rfl
  · rw [sum_indicator]

/-- The mask is set where the token asks for the expert and finds room there. -/
theorem takes_iff (e : IVec S2048x1 32) (t : Fin 2048) (q : Fin 32) : takes e (ix2 t q) = 1#1 ↔ Served (fun t => e (ix2 t 0)) t q.val := by
  have h : takes e (ix2 t q) = IntOp.andi (asks e (ix2 t q)) (IntOp.cmpi .sle (upTo e (ix2 t q)) 51#32) := by
    pointwise [takes]
  rw [h, andi_one, asks_iff, upTo_apply]
  refine and_congr_right fun hq => ?_
  rw [count_incl _ t q.val hq]
  have hr := rank_lt (fun t => e (ix2 t 0)) t
  rw [Predicate.sle_iff_toNat (by rw [BitVec.toNat_ofNat]; omega) (by decide), BitVec.toNat_ofNat, Nat.mod_eq_of_lt (by omega)]
  show _ ≤ 51 ↔ _
  omega

/-- The first column a device cuts is four times its number. -/
theorem firstExpert_apply (c : Dev nD) : firstExpert c = fun _ => BitVec.ofNat 32 (4 * c.val) := by
  funext i
  obtain rfl : i = ix0 := funext fun a => a.elim0
  revert c; decide

section Terms

variable {F : FTy → Type} [FloatOps F]
variable (m : (ℓ : Loc nD τ sig) → Buf (Elt F) ℓ)

/-- The last stretch's slice of the mask, from whatever the earlier stretches left. -/
theorem slice_term (V : Valuation τ sig (Elt F)) (c : Dev nD) : StableHlo.after (hostOps0_2 c) V main_v22
    = Host.dynamicSlice S2048x4 (uitofp (F := F) .bf16 (andi (V main_v7 : IVec S2048x32 1)
        (cmpi .sle (V main_v9 : IVec S2048x32 32) (broadcastInDim S2048x32 ![] bcast_S_S2048x32 (constantI S_ 32 51#32)))))
        (fun k => ((![constantI S_ 32 0#32, firstExpert c] : Fin 2 → IVec S_ 32) k (Shape.Idx.first h_S_)).toInt) sliceFits_S2048x32_S2048x4 := by
  unfold firstExpert
  after_results_simp
  congr 1
  funext k
  match k with
  | ⟨0, _⟩ =>
    generalize hW : HloOp.result _ _ = W
    show ((W (Proc.tc.devRef main_c_5) : IVec S_ 32) (Shape.Idx.first h_S_)).toInt = ((constantI S_ 32 0#32 : IVec S_ 32) (Shape.Idx.first h_S_)).toInt
    subst hW
    after_results_simp
  | ⟨1, _⟩ =>
    generalize hW : HloOp.result _ _ = W
    generalize hR : select _ _ _ = R
    show ((W (Proc.tc.devRef main_v21) : IVec S_ 32) (Shape.Idx.first h_S_)).toInt = ((R : IVec S_ 32) (Shape.Idx.first h_S_)).toInt
    subst hW hR
    after_results_simp

/-- The middle stretch's running count. -/
theorem count_term (V : Valuation τ sig (Elt F)) : StableHlo.after hostOps0_1 V main_v9
    = Host.reduceWindow IntOp.addi ![2048, 1] ![1, 1] ![2047, 0] ![0, 0] (V main_v8 : IVec S2048x32 32)
      (broadcastInDim S_ ![] bcast_S_S_ (constantI S_ 32 0#32)) reduceWindows_S2048x32_S2048x32_w2048s1p2047_0_w1s1p0_0 h_S_ := by
  simp only [hostOps0_1, TRef.nullary, TRef.binary, TRef.unary, TRef.toBuf, TRef.ofBuf, cast_eq]
  after_results_simp

/-- The host lines of the comparison give `asks`. -/
theorem asks_term (c : Dev nD) : V1 m c main_v7 = asks (m ((c.tc : Thread nD τ).loc main_arg2)) := by
  unfold asks
  after_results_simp
  rfl

/-- The host line that widens the comparison gives it as a 32-bit word. -/
theorem wide_term (c : Dev nD) : V1 m c main_v8 = extui 32 (asks (m ((c.tc : Thread nD τ).loc main_arg2))) natLt_1_32 := by
  unfold asks
  after_results_simp
  rfl

/-- The mask as one term of the routing words. -/
theorem mask_term (c : Dev nD) : V3 m c main_v22
    = Host.dynamicSlice S2048x4 (uitofp (F := F) .bf16 (takes (m ((c.tc : Thread nD τ).loc main_arg2))))
        (fun k => ((![constantI S_ 32 0#32, firstExpert c] : Fin 2 → IVec S_ 32) k (Shape.Idx.first h_S_)).toInt) sliceFits_S2048x32_S2048x4 := by
  have h7 : (V2 m c main_v7 : IVec S2048x32 1) = asks (m ((c.tc : Thread nD τ).loc main_arg2)) := (V2_of m c main_v7 (by decide)).trans (asks_term m c)
  have h9 : (V2 m c main_v9 : IVec S2048x32 32) = upTo (m ((c.tc : Thread nD τ).loc main_arg2)) := (count_term (V1 m c)).trans (by rw [wide_term]; rfl)
  rw [V3, slice_term, h7, h9]
  rfl

end Terms

/-- The expert a device keeps in its place `l`. -/
def expert (c : Dev nD) (l : Fin 4) : Fin 32 := ⟨4 * c.val + l.val, by have hc : c.val < 8 := c.isLt; omega⟩

open Classical in
/-- The mask of device `c`: one where the token finds a place with the expert in place `l`, zero elsewhere. -/
theorem mask_apply (m : (ℓ : Loc nD τ sig) → Buf (Elt Ideal) ℓ) (c : Dev nD) (t : Fin 2048) (l : Fin 4) :
    ((V3 m c main_v22 : Vec Ideal S2048x4 .bf16) (ix2 t l) : EReal)
      = if Served (fun t => (m ((c.tc : Thread nD τ).loc main_arg2) : IVec S2048x1 32) (ix2 t 0)) t (expert c l).val then (1 : EReal) else (0 : EReal) := by
  have hc : c.val < 8 := c.isLt
  have hs : S2048x32.Slices ![0, 4 * c.val] S2048x4 := ⟨rfl, fun a => by
    match a with
    | ⟨0, _⟩ => show 0 + 2048 ≤ 2048; omega
    | ⟨1, _⟩ => show 4 * c.val + 4 ≤ 32; omega⟩
  rw [mask_term, Host.dynamicSlice_eq_extractStridedSlice _ _ _ ![0, 4 * c.val] _ hs (fun a => by
    match a with
    | ⟨0, _⟩ => rfl
    | ⟨1, _⟩ =>
      show (firstExpert c (Shape.Idx.first h_S_)).toInt = ((4 * c.val : ℕ) : Int)
      rw [firstExpert_apply]; exact Predicate.toInt_ofNat_small _ (by omega))]
  have hb : extractStridedSlice S2048x4 ![0, 4 * c.val] (uitofp (F := Ideal) .bf16 (takes (m ((c.tc : Thread nD τ).loc main_arg2)))) hs (ix2 t l)
      = FloatOps.uitofp .bf16 (takes (m ((c.tc : Thread nD τ).loc main_arg2)) (ix2 t (expert c l))) := by
    refine congrArg (fun i => FloatOps.uitofp .bf16 (takes (m ((c.tc : Thread nD τ).loc main_arg2)) i)) (funext fun a => Fin.ext ?_)
    match a with
    | ⟨0, _⟩ => show 0 + t.val = t.val; omega
    | ⟨1, _⟩ => rfl
  rw [hb]
  have ht := takes_iff (m ((c.tc : Thread nD τ).loc main_arg2)) t (expert c l)
  split
  · next hk => rw [ht.2 hk]; show ((((1#1 : BitVec 1).toNat : ℝ)) : EReal) = 1; simp
  · next hk => rw [ValueIdx.eq_zero_of_ne_one fun h1 => hk (ht.1 h1)]; show ((((0#1 : BitVec 1).toNat : ℝ)) : EReal) = 0; simp

end Cert.KernelIdeal.Talk

end
-- ==== Proof.RefValue.lean ====
/- What the reference computes, an element at a time. -/
module

public import proofs.«01_k».proof.Proof.Gen.ReferenceIdeal
public import proofs.«01_k».proof.Proof.Words

@[expose] public section

noncomputable section

namespace Cert.ReferenceIdeal.Talk

open Idealize.ShloMosaic Idealize.ShloMosaic.StableHlo
open Cert.ReferenceIdeal Cert.ReferenceIdeal.Gen Cert.Moe

/-- The expert words of the tokens, as a vector. -/
def words (e : IVec S2048x1 32) : IVec S2048 32 := shapeCast S2048 e shapeCasts_S2048x1_S2048

/-- Which pairs of tokens ask for one expert, the second before the first. -/
def earlier (e : IVec S2048x1 32) : IVec S2048x2048 1 :=
  andi (cmpi .eq (broadcastInDim S2048x2048 ![0, 1] bcast_S1x2048_S2048x2048_0_1 (broadcastInDim S1x2048 ![1] bcast_S2048_S1x2048_1 (words e)))
      (broadcastInDim S2048x2048 ![0, 1] bcast_S2048x1_S2048x2048_0_1 (broadcastInDim S2048x1 ![0] bcast_S2048_S2048x1_0 (words e))))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- Each token's rank among those that ask for its expert. -/
def ranks (e : IVec S2048x1 32) : IVec S2048 32 :=
  Host.reduce IntOp.addi (extui 32 (earlier e) natLt_1_32) (constantI S_ 32 0#32) reducesTo_S2048x2048_S2048_d1 h_S_

/-- Which tokens are served. -/
def keeps (e : IVec S2048x1 32) : IVec S2048 1 :=
  andi (andi (cmpi .slt (ranks e) (broadcastInDim S2048 ![] bcast_S_S2048 (constantI S_ 32 51#32)))
      (cmpi .sge (words e) (broadcastInDim S2048 ![] bcast_S_S2048 (constantI S_ 32 0#32))))
    (cmpi .slt (words e) (broadcastInDim S2048 ![] bcast_S_S2048 (constantI S_ 32 32#32)))

/-- The row of the experts' table that each token reads. -/
def rows (e : IVec S2048x1 32) : IVec S2048x1 32 :=
  broadcastInDim S2048x1 ![0] bcast_S2048_S2048x1_0
    (select (cmpi .slt (words e) (broadcastInDim S2048 ![] bcast_S_S2048 (constantI S_ 32 0#32)))
      (addi (words e) (broadcastInDim S2048 ![] bcast_S_S2048 (constantI S_ 32 32#32))) (words e))

/-- The reference's result as one term of its arguments. -/
def out (x : Vec Ideal S2048x512 .bf16) (e : IVec S2048x1 32) (W : Vec Ideal S32x512x1024 .bf16) : Vec Ideal S2048x1024 .f32 :=
  select (broadcastInDim S2048x1024 ![0, 1] bcast_S2048x1_S2048x1024_0_1 (broadcastInDim S2048x1 ![0] bcast_S2048_S2048x1_0 (keeps e)))
    (Host.dotGeneral (F := Ideal) dot_S2048x512_S2048x512x1024_S2048x1024_1_1_n_2_0_0 none (extf (F := Ideal) .f32 x bitsLt_bf16_f32)
      (Host.gather gather_S32x512x1024_S2048x1_S2048x512x1024_12_0_n_n_0_1_15121024 (extf (F := Ideal) .f32 W bitsLt_bf16_f32) (rows e)))
    (broadcastInDim S2048x1024 ![] bcast_S_S2048x1024 (id (constant (F := Ideal) S_ .f32 0x00000000#32)))

/-- The column of expert words, at a token. -/
theorem words_apply (e : IVec S2048x1 32) (t : Fin 2048) : words e (ix1 t) = e (ix2 t 0) := by
  pointwise [words]

/-- The comparison is set at an earlier token that asks for the same expert. -/
theorem earlier_iff (e : IVec S2048x1 32) (t q : Fin 2048) :
    earlier e (ix2 t q) = 1#1 ↔ wordAt (fun t => e (ix2 t 0)) q.val = e (ix2 t 0) ∧ q.val < t.val := by
  have h : earlier e (ix2 t q) = IntOp.andi (IntOp.cmpi .eq (e (ix2 q 0)) (e (ix2 t 0))) (IntOp.cmpi .slt (BitVec.ofNat 32 q.val) (BitVec.ofNat 32 t.val)) := by
    pointwise [earlier, words]
  rw [h, andi_one, Predicate.cmpi_eq_iff, wordAt_val, Predicate.slt_iff_toNat (by rw [BitVec.toNat_ofNat]; omega) (by rw [BitVec.toNat_ofNat]; omega),
    BitVec.toNat_ofNat, BitVec.toNat_ofNat, Nat.mod_eq_of_lt (by omega), Nat.mod_eq_of_lt (by omega)]

/-- The sum over the earlier tokens is the token's rank. -/
theorem ranks_apply (e : IVec S2048x1 32) (t : Fin 2048) : ranks e (ix1 t) = BitVec.ofNat 32 (rank (fun t => e (ix2 t 0)) t) := by
  rw [ix1_eq_valueIdx]
  refine (Routing.reduce_count (n := 2048) (m := 2048) (by decide) (earlier e) natLt_1_32 _ _ t
    (fun q => wordAt (fun t => e (ix2 t 0)) q = e (ix2 t 0) ∧ q < t.val) (fun q => ?_)).trans ?_
  · rw [← ix2_eq_valueIdx]; exact earlier_iff e t q
  · rw [count_before _ (le_of_lt t.isLt)]; rfl

/-- The reference keeps a token that is served by some expert. -/
theorem keeps_iff (e : IVec S2048x1 32) (t : Fin 2048) : keeps e (ix1 t) = 1#1 ↔ ∃ q : Fin 32, Served (fun t => e (ix2 t 0)) t q.val := by
  have h : keeps e (ix1 t) = IntOp.andi (IntOp.andi (IntOp.cmpi .slt (ranks e (ix1 t)) 51#32) (IntOp.cmpi .sge (e (ix2 t 0)) 0#32)) (IntOp.cmpi .slt (e (ix2 t 0)) 32#32) := by
    pointwise [keeps, words]
  have hr := rank_lt (fun t => e (ix2 t 0)) t
  rw [h, andi_one, andi_one, ranks_apply, Predicate.slt_iff_toNat (by rw [BitVec.toNat_ofNat]; omega) (by decide),
    BitVec.toNat_ofNat, Nat.mod_eq_of_lt (by omega), sge_zero, slt_32, and_assoc, small_word]
  exact ⟨fun ⟨hk, q, hq⟩ => ⟨q, hq, hk⟩, fun ⟨q, hq, hk⟩ => ⟨hk, q, hq⟩⟩

/-- A token that asks for expert `q` reads row `q`. -/
theorem rows_apply (e : IVec S2048x1 32) (t : Fin 2048) (q : Fin 32) (h : e (ix2 t 0) = BitVec.ofNat 32 q.val) :
    rows e (ix2 t 0) = BitVec.ofNat 32 q.val := by
  have h1 : rows e (ix2 t 0) = Scalar.select (IntOp.cmpi .slt (e (ix2 t 0)) 0#32) (IntOp.addi (e (ix2 t 0)) 32#32) (e (ix2 t 0)) := by
    pointwise [rows, words]
  rw [h1, h]
  clear h h1
  revert q; decide

/-- The table's row that a token reads. -/
theorem gather_apply (W : Vec Ideal S32x512x1024 .f32) (idx : IVec S2048x1 32) (t : Fin 2048) (k : Fin 512) (h : Fin 1024) (q : Fin 32)
    (hq : idx (ix2 t 0) = BitVec.ofNat 32 q.val) :
    Host.gather gather_S32x512x1024_S2048x1_S2048x512x1024_12_0_n_n_0_1_15121024 W idx (ix3 t k h) = W (ix3 q k h) := by
  refine congrArg W (funext fun a => Fin.ext ?_)
  match a with
  | ⟨0, _⟩ =>
    have hq' := q.isLt
    show min (idx (GatherDims.siIdx gather_S32x512x1024_S2048x1_S2048x512x1024_12_0_n_n_0_1_15121024 (ix3 t k h) ⟨0, by decide⟩)).toInt.toNat 31 + 0 + 0 = q.val
    rw [show GatherDims.siIdx gather_S32x512x1024_S2048x1_S2048x512x1024_12_0_n_n_0_1_15121024 (ix3 t k h) ⟨0, by decide⟩ = ix2 t 0 from
      funext fun b => Fin.ext (by match b with | ⟨0, _⟩ => rfl | ⟨1, _⟩ => rfl), hq, Predicate.toInt_ofNat_small _ (by omega)]
    omega
  | ⟨1, _⟩ => show 0 + 0 + k.val = k.val; omega
  | ⟨2, _⟩ => show 0 + 0 + h.val = h.val; omega

/-- One element of the reference's result, the choice on the token's bit. -/
theorem out_choice (x : Vec Ideal S2048x512 .bf16) (e : IVec S2048x1 32) (W : Vec Ideal S32x512x1024 .bf16) (t : Fin 2048) (h : Fin 1024) :
    (out x e W (ix2 t h) : EReal) = Scalar.select (keeps e (ix1 t))
      (∑ k : Fin 512, (x (ix2 t k) : EReal) * Host.gather gather_S32x512x1024_S2048x1_S2048x512x1024_12_0_n_n_0_1_15121024 (extf (F := Ideal) .f32 W bitsLt_bf16_f32) (rows e) (ix3 t k h))
      (0 : EReal) := by
  pointwise [out, id]

/-- A served token's element: the token's row times the matrix of its expert. -/
theorem out_kept (x : Vec Ideal S2048x512 .bf16) (e : IVec S2048x1 32) (W : Vec Ideal S32x512x1024 .bf16) (t : Fin 2048) (h : Fin 1024) (q : Fin 32)
    (hk : Served (fun t => e (ix2 t 0)) t q.val) : (out x e W (ix2 t h) : EReal) = ∑ k : Fin 512, (x (ix2 t k) : EReal) * W (ix3 q k h) := by
  rw [out_choice, (keeps_iff e t).2 ⟨q, hk⟩, Scalar.select]
  refine (if_pos rfl).trans (Finset.sum_congr rfl fun k _ => congrArg (x (ix2 t k) * ·) ?_)
  exact gather_apply _ _ t k h q (rows_apply e t q hk.1)

/-- An unserved token's element is zero. -/
theorem out_dropped (x : Vec Ideal S2048x512 .bf16) (e : IVec S2048x1 32) (W : Vec Ideal S32x512x1024 .bf16) (t : Fin 2048) (h : Fin 1024)
    (hk : ¬ ∃ q : Fin 32, Served (fun t => e (ix2 t 0)) t q.val) : (out x e W (ix2 t h) : EReal) = 0 := by
  rw [out_choice, ValueIdx.eq_zero_of_ne_one fun h1 => hk ((keeps_iff e t).1 h1)]
  rfl

end Cert.ReferenceIdeal.Talk

end
-- ==== Proof.Equation.lean ====
/- The kernel's result is the reference's. -/
module

public import proofs.«01_k».proof.Proof.Region
public import proofs.«01_k».proof.Proof.Block
public import proofs.«01_k».proof.Proof.Mask
public import proofs.«01_k».proof.Proof.RefValue
public import Idealize.ShloMosaic.Lib.Layout

@[expose] public section

noncomputable section

namespace Cert.KernelIdeal.Talk

open Idealize.ShloMosaic Idealize.ShloMosaic.TcCoe
open Cert.KernelIdeal Cert.KernelIdeal.Gen Cert.Moe

/-! ## The sum over the experts -/

/-- A term of the product whose mask is zero adds nothing. -/
theorem masked_zero (X w : Fin 512 → EReal) : ∑ k : Fin 512, X k * 0 * w k = 0 :=
  Finset.sum_eq_zero fun k _ => by rw [mul_zero, zero_mul]

/-- Every expert has its place on one device. -/
theorem exists_place (q : Fin 32) : ∃ (d : Dev nD) (l : Fin 4), expert d l = q :=
  ⟨⟨q.val / 4, by show q.val / 4 < 8; omega⟩, ⟨q.val % 4, by omega⟩, Fin.ext (by show 4 * (q.val / 4) + q.val % 4 = q.val; omega)⟩

/-- No expert has two places. -/
theorem place_inj {d d' : Dev nD} {l l' : Fin 4} (h : expert d l = expert d' l') : d = d' ∧ l = l' := by
  have h' : 4 * d.val + l.val = 4 * d'.val + l'.val := congrArg Fin.val h
  exact ⟨Fin.ext (by omega), Fin.ext (by omega)⟩

open Classical in
/-- Where no expert takes the token the sum is zero. -/
theorem sum_dropped (X : Fin 512 → EReal) (W : Fin 32 → Fin 512 → EReal) (K : Fin 32 → Prop) (hK : ¬ ∃ q, K q) :
    ∑ d : Dev nD, ∑ l : Fin 4, ∑ k : Fin 512, X k * (if K (expert d l) then (1 : EReal) else 0) * W (expert d l) k = 0 :=
  Finset.sum_eq_zero fun d _ => Finset.sum_eq_zero fun l _ => by
    rw [if_neg fun h => hK ⟨_, h⟩]; exact masked_zero _ _

open Classical in
/-- Where one expert takes the token the sum is the token's row times that expert's matrix. -/
theorem sum_kept (X : Fin 512 → EReal) (W : Fin 32 → Fin 512 → EReal) (K : Fin 32 → Prop) (q : Fin 32) (hq : K q) (hK : ∀ q', K q' → q' = q) :
    ∑ d : Dev nD, ∑ l : Fin 4, ∑ k : Fin 512, X k * (if K (expert d l) then (1 : EReal) else 0) * W (expert d l) k = ∑ k : Fin 512, X k * W q k := by
  obtain ⟨d, l, rfl⟩ := exists_place q
  rw [Finset.sum_eq_single d, Finset.sum_eq_single l]
  · exact Finset.sum_congr rfl fun k _ => by rw [if_pos hq, mul_one]
  · intro l' _ hl
    rw [if_neg fun h => hl (place_inj (hK _ h)).2]; exact masked_zero _ _
  · exact fun h => absurd (Finset.mem_univ _) h
  · intro d' _ hd
    exact Finset.sum_eq_zero fun l' _ => by rw [if_neg fun h => hd (place_inj (hK _ h)).1]; exact masked_zero _ _
  · exact fun h => absurd (Finset.mem_univ _) h

/-! ## The two results -/

/-- A token finds a place with one expert at most. -/
theorem kept_unique {E : Fin 2048 → BitVec 32} {t : Fin 2048} {q q' : Fin 32} (h : Served E t q.val) (h' : Served E t q'.val) : q' = q :=
  Fin.ext (ofNat_inj_small (by omega) (by omega) (h'.1.symm.trans h.1))

variable (m : (ℓ : Loc nD τ sig) → Buf (Elt Ideal) ℓ)

/-- A device's block of the experts' table. -/
theorem block_apply (W : Vec Ideal ReferenceIdeal.S32x512x1024 .bf16) (d : Dev nD) (l : Fin 4) (k : Fin 512) (h : Fin 1024) :
    (Layout.block ⟨3, ![4, 512, 1024]⟩ ⟨3, ![32, 512, 1024]⟩ 0 8 d W) (ix3 l k h) = W (ix3 (expert d l) k h) := by
  refine congrArg W (funext fun a => Fin.ext ?_)
  match a with
  | ⟨0, _⟩ => show d.val * 4 + l.val = 4 * d.val + l.val; omega
  | ⟨1, _⟩ => rfl
  | ⟨2, _⟩ => rfl

open Classical in
/-- One element of the kernel's result, from the arguments. -/
theorem res_apply (x : Vec Ideal S2048x512 .bf16) (e : IVec S2048x1 32) (W : Vec Ideal ReferenceIdeal.S32x512x1024 .bf16)
    (h0 : ∀ c : Dev nD, m ((c.tc : Thread nD τ).loc main_arg0) = x) (h2 : ∀ c : Dev nD, m ((c.tc : Thread nD τ).loc main_arg2) = e)
    (h3 : ∀ c : Dev nD, m ((c.tc : Thread nD τ).loc main_arg3) = Layout.block ⟨3, ![4, 512, 1024]⟩ ⟨3, ![32, 512, 1024]⟩ 0 8 c W)
    (j : Fin 8) (r : Fin 256) (h : Fin 1024) :
    (res m (ix2 (tok j r) h) : EReal) = ∑ d : Dev nD, ∑ l : Fin 4, ∑ k : Fin 512,
      (x (ix2 (tok j r) k) : EReal) * (if Served (fun t => e (ix2 t 0)) (tok j r) (expert d l).val then (1 : EReal) else 0) * W (ix3 (expert d l) k h) := by
  show outOf (whole (Am m)) (ix2 (tok j r) h) = _
  rw [outOf_apply, whole_apply]
  refine Finset.sum_congr rfl fun d _ => ?_
  show acc (inX m d) (inM m d) (inW m d) (ix3 j r h) = _
  rw [acc_apply]
  refine Finset.sum_congr rfl fun l _ => Finset.sum_congr rfl fun k _ => congrArg₂ (· * ·) (congrArg₂ (· * ·) ?_ ?_) ?_
  · rw [inX_eq, V3_of m d main_arg0 (by decide), V2_of m d main_arg0 (by decide), V1_of m d main_arg0 (by decide)]
    exact congrFun (h0 d) _
  · rw [inM_eq, mask_apply, h2 d]
  · rw [inW_eq, V3_of m d main_arg3 (by decide), V2_of m d main_arg3 (by decide), V1_of m d main_arg3 (by decide)]
    exact (congrFun (h3 d) _).trans (block_apply W d l k h)

/-- **The equation**: on arguments that agree the kernel's result is the reference's. -/
theorem res_eq (x : Vec Ideal S2048x512 .bf16) (e : IVec S2048x1 32) (W : Vec Ideal ReferenceIdeal.S32x512x1024 .bf16)
    (h0 : ∀ c : Dev nD, m ((c.tc : Thread nD τ).loc main_arg0) = x) (h2 : ∀ c : Dev nD, m ((c.tc : Thread nD τ).loc main_arg2) = e)
    (h3 : ∀ c : Dev nD, m ((c.tc : Thread nD τ).loc main_arg3) = Layout.block ⟨3, ![4, 512, 1024]⟩ ⟨3, ![32, 512, 1024]⟩ 0 8 c W) :
    res m = ReferenceIdeal.Talk.out x e W := by
  funext i
  obtain ⟨j, r, h, rfl⟩ : ∃ (j : Fin 8) (r : Fin 256) (h : Fin 1024), i = ix2 (tok j r) h := by
    have hi : (i 0).val < 2048 := (i 0).isLt
    refine ⟨⟨(i 0).val / 256, by omega⟩, ⟨(i 0).val % 256, by omega⟩, i 1, funext fun a => Fin.ext ?_⟩
    match a with
    | ⟨0, _⟩ => show (i 0).val = 256 * ((i 0).val / 256) + (i 0).val % 256; omega
    | ⟨1, _⟩ => rfl
  refine (res_apply m x e W h0 h2 h3 j r h).trans ?_
  by_cases hk : ∃ q : Fin 32, Served (fun t => e (ix2 t 0)) (tok j r) q.val
  · obtain ⟨q, hq⟩ := hk
    rw [ReferenceIdeal.Talk.out_kept x e W (tok j r) h q hq]
    exact sum_kept (fun k => x (ix2 (tok j r) k)) (fun q k => W (ix3 q k h)) (fun q => Served (fun t => e (ix2 t 0)) (tok j r) q.val) q hq
      fun q' h' => kept_unique hq h'
  · rw [ReferenceIdeal.Talk.out_dropped x e W (tok j r) h hk]
    exact sum_dropped (fun k => x (ix2 (tok j r) k)) (fun q k => W (ix3 q k h)) (fun q => Served (fun t => e (ix2 t 0)) (tok j r) q.val) hk

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The two programs' tables of bodies are one. -/
theorem tables : @Cert.KernelIdeal.defs₀ Bits _ Cert.KernelIdeal.Gen.facts = @Cert.Kernel.defs₀ Bits _ Cert.Kernel.Gen.facts := by
  refine congrArg Defs.onTc (funext fun ℓ => funext fun a => ?_)
  match ℓ, a with
  | 0, (t, s) => rfl

/-- So the two programs are one. -/
theorem programs : @Cert.KernelIdeal.defs Bits _ Cert.KernelIdeal.Gen.facts = @Cert.Kernel.defs Bits _ Cert.Kernel.Gen.facts :=
  congrArg (Pipeline.defs Cert.KernelIdeal.pcfgs) tables

/-- The program at the device's own floats ends with its arguments as they were and every semaphore at zero: its text is the
    idealised one's. -/
theorem frame_kernel : Cert.quiescent_Kernel := fun m ρ _ => by
  have h := Cert.KernelIdeal.Talk.run_main (F := Bits) m ρ
  rw [programs] at h
  exact (θ_run Cert.Kernel.defs _ _).mono (fun _ h => ⟨fun c => (h.1 c).1, h.2⟩) h

/-- The idealised program likewise. -/
theorem frame_ideal : Cert.quiescent_KernelIdeal := fun m ρ _ =>
  (θ_run Cert.KernelIdeal.defs _ _).mono (fun _ h => ⟨fun c => (h.1 c).1, h.2⟩) (Cert.KernelIdeal.Talk.run_main (F := Ideal) m ρ)

/-- The reference likewise: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are one array, whatever the arguments. -/
theorem algebraic : Cert.algebraic_KernelIdeal_ReferenceIdeal := fun m g m' g' _ hin => by
  have he := Cert.KernelIdeal.Talk.res_eq m _ _ _ (fun c => (hin c).1) (fun c => (hin c).2.2.1) (fun c => (hin c).2.2.2)
  refine ⟨Cert.KernelIdeal.Talk.res m, ?_, ?_⟩
  · exact (θ_run Cert.KernelIdeal.defs _ _).mono (fun _ h c => ⟨(h.1 c).2, (h.1 c).1⟩) (Cert.KernelIdeal.Talk.run_main (F := Ideal) m g)
  · exact (θ_run Cert.ReferenceIdeal.defs _ _).mono (fun _ h => ⟨(h 0).1.trans he.symm, (h 0).2⟩) (Cert.ReferenceIdeal.Value.run (F := Ideal) m' g')

/-- The whole claim. -/
theorem claim : Cert.Claim :=
  ⟨Cert.Kernel.Gen.facts, Cert.KernelIdeal.Gen.facts, Cert.ReferenceIdeal.Gen.facts, frame_kernel, frame_ideal, frame_reference, trivial, algebraic⟩

end Cert.Proof

end
